-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v137)) (v1 : (c : Dev Cert.KernelIdeal.nD) → Buf (Elt Ideal) ((c.tc : Thread Cert.KernelIdeal.nD Cert.KernelIdeal.τ).loc Cert.KernelIdeal.main_v138)) (v2 : (c : Dev Cert.KernelIdeal.nD) → Buf (Elt Ideal) ((c.tc : Thread Cert.KernelIdeal.nD Cert.KernelIdeal.τ).loc Cert.KernelIdeal.main_v123_1)) (v3 : (c : Dev Cert.KernelIdeal.nD) → Buf (Elt Ideal) ((c.tc : Thread Cert.KernelIdeal.nD Cert.KernelIdeal.τ).loc Cert.KernelIdeal.main_v139)) (v4 : (c : Dev Cert.KernelIdeal.nD) → Buf (Elt Ideal) ((c.tc : Thread Cert.KernelIdeal.nD Cert.KernelIdeal.τ).loc Cert.KernelIdeal.main_v28)) (v5 : (c : Dev Cert.KernelIdeal.nD) → Buf (Elt Ideal) ((c.tc : Thread Cert.KernelIdeal.nD Cert.KernelIdeal.τ).loc Cert.KernelIdeal.main_v123_2)) (v6 : (c : Dev Cert.KernelIdeal.nD) → Buf (Elt Ideal) ((c.tc : Thread Cert.KernelIdeal.nD Cert.KernelIdeal.τ).loc Cert.KernelIdeal.main_v65)) (v7 : (c : Dev Cert.KernelIdeal.nD) → Buf (Elt Ideal) ((c.tc : Thread Cert.KernelIdeal.nD Cert.KernelIdeal.τ).loc Cert.KernelIdeal.main_v140)) (v8 : (c : Dev Cert.KernelIdeal.nD) → Buf (Elt Ideal) ((c.tc : Thread Cert.KernelIdeal.nD Cert.KernelIdeal.τ).loc Cert.KernelIdeal.main_v102)) (v9 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_v138) = v1 c
          ∧ r.2.mem ((c.tc : Thread Cert.KernelIdeal.nD Cert.KernelIdeal.τ).loc Cert.KernelIdeal.main_v123_1) = v2 c
          ∧ r.2.mem ((c.tc : Thread Cert.KernelIdeal.nD Cert.KernelIdeal.τ).loc Cert.KernelIdeal.main_v139) = v3 c
          ∧ r.2.mem ((c.tc : Thread Cert.KernelIdeal.nD Cert.KernelIdeal.τ).loc Cert.KernelIdeal.main_v28) = v4 c
          ∧ r.2.mem ((c.tc : Thread Cert.KernelIdeal.nD Cert.KernelIdeal.τ).loc Cert.KernelIdeal.main_v123_2) = v5 c
          ∧ r.2.mem ((c.tc : Thread Cert.KernelIdeal.nD Cert.KernelIdeal.τ).loc Cert.KernelIdeal.main_v65) = v6 c
          ∧ r.2.mem ((c.tc : Thread Cert.KernelIdeal.nD Cert.KernelIdeal.τ).loc Cert.KernelIdeal.main_v140) = v7 c
          ∧ r.2.mem ((c.tc : Thread Cert.KernelIdeal.nD Cert.KernelIdeal.τ).loc Cert.KernelIdeal.main_v102) = v8 c
          ∧ r.2.mem ((c.tc : Thread Cert.KernelIdeal.nD Cert.KernelIdeal.τ).loc Cert.KernelIdeal.main_v136) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v7) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v8) = v6 c
          ∧ r.2.mem ((c.tc : Thread Cert.ReferenceIdeal.nD Cert.ReferenceIdeal.τ).loc Cert.ReferenceIdeal.main_v9) = v7 c
          ∧ r.2.mem ((c.tc : Thread Cert.ReferenceIdeal.nD Cert.ReferenceIdeal.τ).loc Cert.ReferenceIdeal.main_v10) = v8 c
          ∧ r.2.mem ((c.tc : Thread Cert.ReferenceIdeal.nD Cert.ReferenceIdeal.τ).loc Cert.ReferenceIdeal.main_v3_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x6144x2816 : Shape := ⟨3, ![1, 6144, 2816]⟩
abbrev S2816 : Shape := ⟨1, ![2816]⟩
abbrev S2816x17664 : Shape := ⟨2, ![2816, 17664]⟩
abbrev S1x6144x17664 : Shape := ⟨3, ![1, 6144, 17664]⟩
abbrev S3x16 : Shape := ⟨2, ![3, 16]⟩
abbrev S1x16 : Shape := ⟨2, ![1, 16]⟩
abbrev S16 : Shape := ⟨1, ![16]⟩
abbrev S_ : Shape := ⟨0, ![]⟩
abbrev S255 : Shape := ⟨1, ![255]⟩
abbrev S6144x2816 : Shape := ⟨2, ![6144, 2816]⟩
abbrev S6144x17664 : Shape := ⟨2, ![6144, 17664]⟩
abbrev S1 : Shape := ⟨1, ![1]⟩
abbrev S1x2816 : Shape := ⟨2, ![1, 2816]⟩
abbrev S2816x6144 : Shape := ⟨2, ![2816, 6144]⟩
abbrev S8x2816 : Shape := ⟨2, ![8, 2816]⟩
abbrev S512x2816 : Shape := ⟨2, ![512, 2816]⟩
abbrev S2816x512 : Shape := ⟨2, ![2816, 512]⟩
abbrev S512 : Shape := ⟨1, ![512]⟩
abbrev S512x1 : Shape := ⟨2, ![512, 1]⟩
abbrev S64x8x2816 : Shape := ⟨3, ![64, 8, 2816]⟩
abbrev S4 : Shape := ⟨1, ![4]⟩
abbrev S8x256 : Shape := ⟨2, ![8, 256]⟩
abbrev S2816x256 : Shape := ⟨2, ![2816, 256]⟩
abbrev S6144x256 : Shape := ⟨2, ![6144, 256]⟩
abbrev S352x8x256 : Shape := ⟨3, ![352, 8, 256]⟩
abbrev S768x8x256 : Shape := ⟨3, ![768, 8, 256]⟩
abbrev S1024x2816 : Shape := ⟨2, ![1024, 2816]⟩
abbrev S1024x256 : Shape := ⟨2, ![1024, 256]⟩
abbrev S704x6144 : Shape := ⟨2, ![704, 6144]⟩
abbrev S704x256 : Shape := ⟨2, ![704, 256]⟩
abbrev S1024x17664 : Shape := ⟨2, ![1024, 17664]⟩
abbrev S256x17664 : Shape := ⟨2, ![256, 17664]⟩
abbrev S3 : Shape := ⟨1, ![3]⟩
abbrev S3x1 : Shape := ⟨2, ![3, 1]⟩
abbrev S3x15 : Shape := ⟨2, ![3, 15]⟩

abbrev nBuf : Space → Nat
  | .hbm => 243
  | .vmem => 30
  | .smem => 3
  | _ => 0

abbrev hbmTy0_0 (i : Nat) : BufTy := match i % 128 with
  | 0 => ⟨S1x6144x2816, .bf16⟩
  | 1 => ⟨S2816, .bf16⟩
  | 2 => ⟨S2816x17664, .bf16⟩
  | 3 => ⟨S1x6144x17664, .bf16⟩
  | 4 => ⟨S3x16, .f32⟩
  | 5 => ⟨S1x16, .f32⟩
  | 6 => ⟨S16, .f32⟩
  | 7 => ⟨S_, .f32⟩
  | 8 => ⟨S_, .f32⟩
  | 9 => ⟨S_, .f32⟩
  | 10 => ⟨S_, .f32⟩
  | 11 => ⟨S255, .i32⟩
  | 12 => ⟨S_, .i32⟩
  | 13 => ⟨S255, .i32⟩
  | 14 => ⟨S255, .i32⟩
  | 15 => ⟨S_, .f32⟩
  | 16 => ⟨S_, .i32⟩
  | 17 => ⟨S255, .i32⟩
  | 18 => ⟨S255, .i32⟩
  | 19 => ⟨S255, .f32⟩
  | 20 => ⟨S255, .f32⟩
  | 21 => ⟨S255, .i1⟩
  | 22 => ⟨S255, .i32⟩
  | 23 => ⟨S_, .i32⟩
  | 24 => ⟨S_, .i32⟩
  | 25 => ⟨S_, .i32⟩
  | 26 => ⟨S_, .i1⟩
  | 27 => ⟨S_, .i32⟩
  | 28 => ⟨S_, .i1⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .f32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .f32⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .f32⟩
  | 71 => ⟨S1x16, .f32⟩
  | 72 => ⟨S16, .f32⟩
  | 73 => ⟨S_, .f32⟩
  | 74 => ⟨S_, .f32⟩
  | 75 => ⟨S_, .f32⟩
  | 76 => ⟨S_, .f32⟩
  | 77 => ⟨S255, .i32⟩
  | 78 => ⟨S_, .i32⟩
  | 79 => ⟨S255, .i32⟩
  | 80 => ⟨S255, .i32⟩
  | 81 => ⟨S_, .f32⟩
  | 82 => ⟨S_, .i32⟩
  | 83 => ⟨S255, .i32⟩
  | 84 => ⟨S255, .i32⟩
  | 85 => ⟨S255, .f32⟩
  | 86 => ⟨S255, .f32⟩
  | 87 => ⟨S255, .i1⟩
  | 88 => ⟨S255, .i32⟩
  | 89 => ⟨S_, .i32⟩
  | 90 => ⟨S_, .i32⟩
  | 91 => ⟨S_, .i32⟩
  | 92 => ⟨S_, .i1⟩
  | 93 => ⟨S_, .i32⟩
  | 94 => ⟨S_, .i1⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .f32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .f32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i1⟩
  | _ => ⟨S1x6144x2816, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .f32⟩
  | 9 => ⟨S1x16, .f32⟩
  | 10 => ⟨S16, .f32⟩
  | 11 => ⟨S_, .f32⟩
  | 12 => ⟨S_, .f32⟩
  | 13 => ⟨S_, .f32⟩
  | 14 => ⟨S_, .f32⟩
  | 15 => ⟨S255, .i32⟩
  | 16 => ⟨S_, .i32⟩
  | 17 => ⟨S255, .i32⟩
  | 18 => ⟨S255, .i32⟩
  | 19 => ⟨S_, .f32⟩
  | 20 => ⟨S_, .i32⟩
  | 21 => ⟨S255, .i32⟩
  | 22 => ⟨S255, .i32⟩
  | 23 => ⟨S255, .f32⟩
  | 24 => ⟨S255, .f32⟩
  | 25 => ⟨S255, .i1⟩
  | 26 => ⟨S255, .i32⟩
  | 27 => ⟨S_, .i32⟩
  | 28 => ⟨S_, .i32⟩
  | 29 => ⟨S_, .i32⟩
  | 30 => ⟨S_, .i1⟩
  | 31 => ⟨S_, .i32⟩
  | 32 => ⟨S_, .i1⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .f32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .f32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .f32⟩
  | 75 => ⟨S6144x2816, .bf16⟩
  | 76 => ⟨S6144x17664, .bf16⟩
  | 77 => ⟨S1, .f32⟩
  | 78 => ⟨S1x2816, .bf16⟩
  | 79 => ⟨S6144x2816, .fp8e4m3⟩
  | 80 => ⟨S2816x6144, .fp8e4m3⟩
  | 81 => ⟨S8x2816, .f32⟩
  | 82 => ⟨S_, .f32⟩
  | 83 => ⟨S_, .f32⟩
  | 84 => ⟨S1, .f32⟩
  | 85 => ⟨S1, .f32⟩
  | 86 => ⟨S1, .f32⟩
  | 87 => ⟨S1, .f32⟩
  | 88 => ⟨S4, .f32⟩
  | 89 => ⟨S6144x17664, .bf16⟩
  | 90 => ⟨S2816x17664, .f32⟩
  | 91 => ⟨S2816x17664, .fp8e4m3⟩
  | 92 => ⟨S6144x17664, .fp8e5m2⟩
  | 93 => ⟨S8x256, .f32⟩
  | 94 => ⟨S8x256, .f32⟩
  | 95 => ⟨S_, .f32⟩
  | 96 => ⟨S1, .f32⟩
  | 97 => ⟨S6144x2816, .bf16⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S1, .f32⟩
  | 105 => ⟨S1, .f32⟩
  | 106 => ⟨S1, .f32⟩
  | 107 => ⟨S3, .f32⟩
  | 108 => ⟨S3x1, .f32⟩
  | 109 => ⟨S3x15, .f32⟩
  | 110 => ⟨S3x16, .f32⟩
  | 111 => ⟨S1x6144x17664, .bf16⟩
  | 112 => ⟨S1x6144x2816, .bf16⟩
  | 113 => ⟨S1x6144x2816, .fp8e4m3⟩
  | 114 => ⟨S1x6144x17664, .fp8e5m2⟩
  | _ => ⟨S1x6144x2816, .bf16⟩

abbrev hbmTy (i : Nat) : BufTy := match i / 128 with
  | 0 => hbmTy0_0 i
  | 1 => hbmTy0_1 i
  | _ => ⟨S1x6144x2816, .bf16⟩

abbrev bufTy : (tb : Table) → Fin (tcTables nBuf tb) → BufTy
  | .hbm, ⟨i, _⟩ => hbmTy i
  | .local _ .vmem, ⟨0, _⟩ => ⟨S512x2816, .bf16⟩
  | .local _ .vmem, ⟨1, _⟩ => ⟨S512x2816, .bf16⟩
  | .local _ .vmem, ⟨2, _⟩ => ⟨S1x2816, .bf16⟩
  | .local _ .vmem, ⟨3, _⟩ => ⟨S512x2816, .fp8e4m3⟩
  | .local _ .vmem, ⟨4, _⟩ => ⟨S512x2816, .fp8e4m3⟩
  | .local _ .vmem, ⟨5, _⟩ => ⟨S2816x512, .fp8e4m3⟩
  | .local _ .vmem, ⟨6, _⟩ => ⟨S2816x512, .fp8e4m3⟩
  | .local _ .vmem, ⟨7, _⟩ => ⟨S8x2816, .f32⟩
  | .local _ .vmem, ⟨8, _⟩ => ⟨S6144x2816, .fp8e4m3⟩
  | .local _ .vmem, ⟨9, _⟩ => ⟨S2816x6144, .fp8e4m3⟩
  | .local _ .vmem, ⟨10, _⟩ => ⟨S2816x256, .bf16⟩
  | .local _ .vmem, ⟨11, _⟩ => ⟨S2816x256, .bf16⟩
  | .local _ .vmem, ⟨12, _⟩ => ⟨S6144x256, .bf16⟩
  | .local _ .vmem, ⟨13, _⟩ => ⟨S6144x256, .bf16⟩
  | .local _ .vmem, ⟨14, _⟩ => ⟨S6144x256, .bf16⟩
  | .local _ .vmem, ⟨15, _⟩ => ⟨S6144x256, .bf16⟩
  | .local _ .vmem, ⟨16, _⟩ => ⟨S2816x256, .f32⟩
  | .local _ .vmem, ⟨17, _⟩ => ⟨S2816x256, .f32⟩
  | .local _ .vmem, ⟨18, _⟩ => ⟨S2816x256, .fp8e4m3⟩
  | .local _ .vmem, ⟨19, _⟩ => ⟨S2816x256, .fp8e4m3⟩
  | .local _ .vmem, ⟨20, _⟩ => ⟨S6144x256, .fp8e5m2⟩
  | .local _ .vmem, ⟨21, _⟩ => ⟨S6144x256, .fp8e5m2⟩
  | .local _ .vmem, ⟨22, _⟩ => ⟨S8x256, .f32⟩
  | .local _ .vmem, ⟨23, _⟩ => ⟨S8x256, .f32⟩
  | .local _ .vmem, ⟨24, _⟩ => ⟨S1024x17664, .fp8e5m2⟩
  | .local _ .vmem, ⟨25, _⟩ => ⟨S1024x17664, .fp8e5m2⟩
  | .local _ .vmem, ⟨26, _⟩ => ⟨S256x17664, .fp8e4m3⟩
  | .local _ .vmem, ⟨27, _⟩ => ⟨S256x17664, .fp8e4m3⟩
  | .local _ .vmem, ⟨28, _⟩ => ⟨S1024x256, .bf16⟩
  | .local _ .vmem, ⟨29, _⟩ => ⟨S1024x256, .bf16⟩
  | .local _ .smem, ⟨0, _⟩ => ⟨S1, .f32⟩
  | .local _ .smem, ⟨1, _⟩ => ⟨S4, .f32⟩
  | .local _ .smem, ⟨2, _⟩ => ⟨S1, .f32⟩
  | _, _ => ⟨S1x6144x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_c_6 : Ref sig .tc := ⟨.hbm, 32, rfl⟩
abbrev main_call0_v0 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_c_8 : Ref sig .tc := ⟨.hbm, 37, rfl⟩
abbrev main_call1_v0 : Ref sig .tc := ⟨.hbm, 38, rfl⟩
abbrev main_v21 : Ref sig .tc := ⟨.hbm, 39, rfl⟩
abbrev main_c_9 : Ref sig .tc := ⟨.hbm, 40, rfl⟩
abbrev main_v22 : Ref sig .tc := ⟨.hbm, 41, rfl⟩
abbrev main_c_10 : Ref sig .tc := ⟨.hbm, 42, rfl⟩
abbrev main_v23 : Ref sig .tc := ⟨.hbm, 43, rfl⟩
abbrev main_c_11 : Ref sig .tc := ⟨.hbm, 44, rfl⟩
abbrev main_v24 : Ref sig .tc := ⟨.hbm, 45, rfl⟩
abbrev main_c_12 : Ref sig .tc := ⟨.hbm, 46, rfl⟩
abbrev main_call2_v0 : Ref sig .tc := ⟨.hbm, 47, rfl⟩
abbrev main_v25 : Ref sig .tc := ⟨.hbm, 48, rfl⟩
abbrev main_c_13 : Ref sig .tc := ⟨.hbm, 49, rfl⟩
abbrev main_v26 : Ref sig .tc := ⟨.hbm, 50, rfl⟩
abbrev main_c_14 : Ref sig .tc := ⟨.hbm, 51, rfl⟩
abbrev main_call3_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_15 : Ref sig .tc := ⟨.hbm, 56, rfl⟩
abbrev main_v30 : Ref sig .tc := ⟨.hbm, 57, rfl⟩
abbrev main_c_16 : Ref sig .tc := ⟨.hbm, 58, rfl⟩
abbrev main_v31 : Ref sig .tc := ⟨.hbm, 59, rfl⟩
abbrev main_c_17 : Ref sig .tc := ⟨.hbm, 60, rfl⟩
abbrev main_v32 : Ref sig .tc := ⟨.hbm, 61, rfl⟩
abbrev main_c_18 : Ref sig .tc := ⟨.hbm, 62, rfl⟩
abbrev main_call4_v0 : Ref sig .tc := ⟨.hbm, 63, rfl⟩
abbrev main_v33 : Ref sig .tc := ⟨.hbm, 64, rfl⟩
abbrev main_c_19 : Ref sig .tc := ⟨.hbm, 65, rfl⟩
abbrev main_v34 : Ref sig .tc := ⟨.hbm, 66, rfl⟩
abbrev main_c_20 : Ref sig .tc := ⟨.hbm, 67, rfl⟩
abbrev main_call5_v0 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_21 : Ref sig .tc := ⟨.hbm, 73, rfl⟩
abbrev main_v39 : Ref sig .tc := ⟨.hbm, 74, rfl⟩
abbrev main_cst_22 : Ref sig .tc := ⟨.hbm, 75, rfl⟩
abbrev main_v40 : Ref sig .tc := ⟨.hbm, 76, rfl⟩
abbrev main_v41 : Ref sig .tc := ⟨.hbm, 77, rfl⟩
abbrev main_c_23 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_24 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_25 : Ref sig .tc := ⟨.hbm, 89, rfl⟩
abbrev main_v51 : Ref sig .tc := ⟨.hbm, 90, rfl⟩
abbrev main_c_26 : Ref sig .tc := ⟨.hbm, 91, rfl⟩
abbrev main_v52 : Ref sig .tc := ⟨.hbm, 92, rfl⟩
abbrev main_c_27 : Ref sig .tc := ⟨.hbm, 93, rfl⟩
abbrev main_v53 : Ref sig .tc := ⟨.hbm, 94, rfl⟩
abbrev main_v54 : Ref sig .tc := ⟨.hbm, 95, rfl⟩
abbrev main_c_28 : Ref sig .tc := ⟨.hbm, 96, rfl⟩
abbrev main_v55 : Ref sig .tc := ⟨.hbm, 97, rfl⟩
abbrev main_c_29 : Ref sig .tc := ⟨.hbm, 98, rfl⟩
abbrev main_call6_v0 : Ref sig .tc := ⟨.hbm, 99, rfl⟩
abbrev main_v56 : Ref sig .tc := ⟨.hbm, 100, rfl⟩
abbrev main_cst_30 : Ref sig .tc := ⟨.hbm, 101, rfl⟩
abbrev main_v57 : Ref sig .tc := ⟨.hbm, 102, rfl⟩
abbrev main_c_31 : Ref sig .tc := ⟨.hbm, 103, rfl⟩
abbrev main_call7_v0 : Ref sig .tc := ⟨.hbm, 104, rfl⟩
abbrev main_v58 : Ref sig .tc := ⟨.hbm, 105, rfl⟩
abbrev main_c_32 : Ref sig .tc := ⟨.hbm, 106, rfl⟩
abbrev main_v59 : Ref sig .tc := ⟨.hbm, 107, rfl⟩
abbrev main_c_33 : Ref sig .tc := ⟨.hbm, 108, rfl⟩
abbrev main_v60 : Ref sig .tc := ⟨.hbm, 109, rfl⟩
abbrev main_c_34 : Ref sig .tc := ⟨.hbm, 110, rfl⟩
abbrev main_v61 : Ref sig .tc := ⟨.hbm, 111, rfl⟩
abbrev main_c_35 : Ref sig .tc := ⟨.hbm, 112, rfl⟩
abbrev main_call8_v0 : Ref sig .tc := ⟨.hbm, 113, rfl⟩
abbrev main_v62 : Ref sig .tc := ⟨.hbm, 114, rfl⟩
abbrev main_c_36 : Ref sig .tc := ⟨.hbm, 115, rfl⟩
abbrev main_v63 : Ref sig .tc := ⟨.hbm, 116, rfl⟩
abbrev main_c_37 : Ref sig .tc := ⟨.hbm, 117, rfl⟩
abbrev main_call9_v0 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_c_38 : Ref sig .tc := ⟨.hbm, 122, rfl⟩
abbrev main_v67 : Ref sig .tc := ⟨.hbm, 123, rfl⟩
abbrev main_c_39 : Ref sig .tc := ⟨.hbm, 124, rfl⟩
abbrev main_v68 : Ref sig .tc := ⟨.hbm, 125, rfl⟩
abbrev main_c_40 : Ref sig .tc := ⟨.hbm, 126, rfl⟩
abbrev main_v69 : Ref sig .tc := ⟨.hbm, 127, rfl⟩
abbrev main_c_41 : Ref sig .tc := ⟨.hbm, 128, rfl⟩
abbrev main_call10_v0 : Ref sig .tc := ⟨.hbm, 129, rfl⟩
abbrev main_v70 : Ref sig .tc := ⟨.hbm, 130, rfl⟩
abbrev main_c_42 : Ref sig .tc := ⟨.hbm, 131, rfl⟩
abbrev main_v71 : Ref sig .tc := ⟨.hbm, 132, rfl⟩
abbrev main_c_43 : Ref sig .tc := ⟨.hbm, 133, rfl⟩
abbrev main_call11_v0 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_cst_44 : Ref sig .tc := ⟨.hbm, 139, rfl⟩
abbrev main_v76 : Ref sig .tc := ⟨.hbm, 140, rfl⟩
abbrev main_cst_45 : Ref sig .tc := ⟨.hbm, 141, rfl⟩
abbrev main_v77 : Ref sig .tc := ⟨.hbm, 142, rfl⟩
abbrev main_v78 : Ref sig .tc := ⟨.hbm, 143, rfl⟩
abbrev main_c_46 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_c_47 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_c_48 : Ref sig .tc := ⟨.hbm, 155, rfl⟩
abbrev main_v88 : Ref sig .tc := ⟨.hbm, 156, rfl⟩
abbrev main_c_49 : Ref sig .tc := ⟨.hbm, 157, rfl⟩
abbrev main_v89 : Ref sig .tc := ⟨.hbm, 158, rfl⟩
abbrev main_c_50 : Ref sig .tc := ⟨.hbm, 159, rfl⟩
abbrev main_v90 : Ref sig .tc := ⟨.hbm, 160, rfl⟩
abbrev main_v91 : Ref sig .tc := ⟨.hbm, 161, rfl⟩
abbrev main_c_51 : Ref sig .tc := ⟨.hbm, 162, rfl⟩
abbrev main_v92 : Ref sig .tc := ⟨.hbm, 163, rfl⟩
abbrev main_c_52 : Ref sig .tc := ⟨.hbm, 164, rfl⟩
abbrev main_call12_v0 : Ref sig .tc := ⟨.hbm, 165, rfl⟩
abbrev main_v93 : Ref sig .tc := ⟨.hbm, 166, rfl⟩
abbrev main_cst_53 : Ref sig .tc := ⟨.hbm, 167, rfl⟩
abbrev main_v94 : Ref sig .tc := ⟨.hbm, 168, rfl⟩
abbrev main_c_54 : Ref sig .tc := ⟨.hbm, 169, rfl⟩
abbrev main_call13_v0 : Ref sig .tc := ⟨.hbm, 170, rfl⟩
abbrev main_v95 : Ref sig .tc := ⟨.hbm, 171, rfl⟩
abbrev main_c_55 : Ref sig .tc := ⟨.hbm, 172, rfl⟩
abbrev main_v96 : Ref sig .tc := ⟨.hbm, 173, rfl⟩
abbrev main_c_56 : Ref sig .tc := ⟨.hbm, 174, rfl⟩
abbrev main_v97 : Ref sig .tc := ⟨.hbm, 175, rfl⟩
abbrev main_c_57 : Ref sig .tc := ⟨.hbm, 176, rfl⟩
abbrev main_v98 : Ref sig .tc := ⟨.hbm, 177, rfl⟩
abbrev main_c_58 : Ref sig .tc := ⟨.hbm, 178, rfl⟩
abbrev main_call14_v0 : Ref sig .tc := ⟨.hbm, 179, rfl⟩
abbrev main_v99 : Ref sig .tc := ⟨.hbm, 180, rfl⟩
abbrev main_c_59 : Ref sig .tc := ⟨.hbm, 181, rfl⟩
abbrev main_v100 : Ref sig .tc := ⟨.hbm, 182, rfl⟩
abbrev main_c_60 : Ref sig .tc := ⟨.hbm, 183, rfl⟩
abbrev main_call15_v0 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_c_61 : Ref sig .tc := ⟨.hbm, 188, rfl⟩
abbrev main_v104 : Ref sig .tc := ⟨.hbm, 189, rfl⟩
abbrev main_c_62 : Ref sig .tc := ⟨.hbm, 190, rfl⟩
abbrev main_v105 : Ref sig .tc := ⟨.hbm, 191, rfl⟩
abbrev main_c_63 : Ref sig .tc := ⟨.hbm, 192, rfl⟩
abbrev main_v106 : Ref sig .tc := ⟨.hbm, 193, rfl⟩
abbrev main_c_64 : Ref sig .tc := ⟨.hbm, 194, rfl⟩
abbrev main_call16_v0 : Ref sig .tc := ⟨.hbm, 195, rfl⟩
abbrev main_v107 : Ref sig .tc := ⟨.hbm, 196, rfl⟩
abbrev main_c_65 : Ref sig .tc := ⟨.hbm, 197, rfl⟩
abbrev main_v108 : Ref sig .tc := ⟨.hbm, 198, rfl⟩
abbrev main_c_66 : Ref sig .tc := ⟨.hbm, 199, rfl⟩
abbrev main_call17_v0 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115_0 : Ref sig .tc := ⟨.hbm, 207, rfl⟩
abbrev main_v115_1 : Ref sig .tc := ⟨.hbm, 208, rfl⟩
abbrev main_v115_2 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123_0 : Ref sig .tc := ⟨.hbm, 217, rfl⟩
abbrev main_v123_1 : Ref sig .tc := ⟨.hbm, 218, rfl⟩
abbrev main_v123_2 : Ref sig .tc := ⟨.hbm, 219, rfl⟩
abbrev main_v123_3 : Ref sig .tc := ⟨.hbm, 220, rfl⟩
abbrev main_v123_4 : Ref sig .tc := ⟨.hbm, 221, rfl⟩
abbrev main_v123_5 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_cst_67 : Ref sig .tc := ⟨.hbm, 226, rfl⟩
abbrev main_v127 : Ref sig .tc := ⟨.hbm, 227, rfl⟩
abbrev main_cst_68 : Ref sig .tc := ⟨.hbm, 228, rfl⟩
abbrev main_v128 : Ref sig .tc := ⟨.hbm, 229, rfl⟩
abbrev main_cst_69 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg10_0 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem10_0 : DmaSem sig := 25
abbrev cc2_sem0_0 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32

abbrev nD : Nat := 1
abbrev τ : Topo := Topo.v7x

variable {F : FTy → Type} [FloatOps F]

abbrev grid0 : Pipeline.Grid := ⟨1, ![12], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2816x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![69], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S6144x2816 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2816x6144 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2816x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6144x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S6144x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2816x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2816x256 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S6144x256 .fp8e5m2 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S8x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S8x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨2, ![6, 11], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x17664 .fp8e5m2 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x17664 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S1x6144x2816 : Shape := ⟨3, ![1, 6144, 2816]⟩
abbrev S2816 : Shape := ⟨1, ![2816]⟩
abbrev S2816x17664 : Shape := ⟨2, ![2816, 17664]⟩
abbrev S1x6144x17664 : Shape := ⟨3, ![1, 6144, 17664]⟩
abbrev S3x16 : Shape := ⟨2, ![3, 16]⟩
abbrev S6144x2816 : Shape := ⟨2, ![6144, 2816]⟩
abbrev S1x2816 : Shape := ⟨2, ![1, 2816]⟩
abbrev S6144x17664 : Shape := ⟨2, ![6144, 17664]⟩
abbrev S1x1 : Shape := ⟨2, ![1, 1]⟩
abbrev S3 : Shape := ⟨1, ![3]⟩
abbrev S3x1 : Shape := ⟨2, ![3, 1]⟩
abbrev S3x254 : Shape := ⟨2, ![3, 254]⟩
abbrev S6144 : Shape := ⟨1, ![6144]⟩
abbrev S6144x1 : Shape := ⟨2, ![6144, 1]⟩
abbrev S1 : Shape := ⟨1, ![1]⟩
abbrev S1x1x1 : Shape := ⟨3, ![1, 1, 1]⟩
abbrev S1x2816x17664 : Shape := ⟨3, ![1, 2816, 17664]⟩
abbrev S3x15 : Shape := ⟨2, ![3, 15]⟩
abbrev S_ : Shape := ⟨0, ![]⟩

abbrev nBuf : Space → Nat
  | .hbm => 25
  | .vmem => 15
  | .smem => 0
  | _ => 0

abbrev bufTy : (tb : Table) → Fin (tcTables nBuf tb) → BufTy
  | .hbm, ⟨0, _⟩ => ⟨S1x6144x2816, .bf16⟩
  | .hbm, ⟨1, _⟩ => ⟨S2816, .bf16⟩
  | .hbm, ⟨2, _⟩ => ⟨S2816x17664, .bf16⟩
  | .hbm, ⟨3, _⟩ => ⟨S1x6144x17664, .bf16⟩
  | .hbm, ⟨4, _⟩ => ⟨S3x16, .f32⟩
  | .hbm, ⟨5, _⟩ => ⟨S6144x2816, .bf16⟩
  | .hbm, ⟨6, _⟩ => ⟨S1x2816, .bf16⟩
  | .hbm, ⟨7, _⟩ => ⟨S6144x17664, .bf16⟩
  | .hbm, ⟨8, _⟩ => ⟨S6144x17664, .bf16⟩
  | .hbm, ⟨9, _⟩ => ⟨S6144x2816, .bf16⟩
  | .hbm, ⟨10, _⟩ => ⟨S2816x17664, .f32⟩
  | .hbm, ⟨11, _⟩ => ⟨S6144x2816, .fp8e4m3⟩
  | .hbm, ⟨12, _⟩ => ⟨S1x1, .f32⟩
  | .hbm, ⟨13, _⟩ => ⟨S2816x17664, .fp8e4m3⟩
  | .hbm, ⟨14, _⟩ => ⟨S1x1, .f32⟩
  | .hbm, ⟨15, _⟩ => ⟨S6144x17664, .fp8e5m2⟩
  | .hbm, ⟨16, _⟩ => ⟨S1x1, .f32⟩
  | .hbm, ⟨17, _⟩ => ⟨S3x16, .f32⟩
  | .hbm, ⟨18, _⟩ => ⟨S1x6144x17664, .bf16⟩
  | .hbm, ⟨19, _⟩ => ⟨S1x6144x2816, .bf16⟩
  | .hbm, ⟨20, _⟩ => ⟨S1x6144x2816, .fp8e4m3⟩
  | .hbm, ⟨21, _⟩ => ⟨S_, .f32⟩
  | .hbm, ⟨22, _⟩ => ⟨S_, .f32⟩
  | .hbm, ⟨23, _⟩ => ⟨S1x6144x17664, .fp8e5m2⟩
  | .hbm, ⟨24, _⟩ => ⟨S_, .f32⟩
  | .local _ .vmem, ⟨0, _⟩ => ⟨S6144x2816, .bf16⟩
  | .local _ .vmem, ⟨1, _⟩ => ⟨S1x2816, .bf16⟩
  | .local _ .vmem, ⟨2, _⟩ => ⟨S2816x17664, .bf16⟩
  | .local _ .vmem, ⟨3, _⟩ => ⟨S6144x17664, .bf16⟩
  | .local _ .vmem, ⟨4, _⟩ => ⟨S3x16, .f32⟩
  | .local _ .vmem, ⟨5, _⟩ => ⟨S6144x17664, .bf16⟩
  | .local _ .vmem, ⟨6, _⟩ => ⟨S6144x2816, .bf16⟩
  | .local _ .vmem, ⟨7, _⟩ => ⟨S2816x17664, .f32⟩
  | .local _ .vmem, ⟨8, _⟩ => ⟨S6144x2816, .fp8e4m3⟩
  | .local _ .vmem, ⟨9, _⟩ => ⟨S1x1, .f32⟩
  | .local _ .vmem, ⟨10, _⟩ => ⟨S2816x17664, .fp8e4m3⟩
  | .local _ .vmem, ⟨11, _⟩ => ⟨S1x1, .f32⟩
  | .local _ .vmem, ⟨12, _⟩ => ⟨S6144x17664, .fp8e5m2⟩
  | .local _ .vmem, ⟨13, _⟩ => ⟨S1x1, .f32⟩
  | .local _ .vmem, ⟨14, _⟩ => ⟨S3x16, .f32⟩
  | _, _ => ⟨S1x6144x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v3_7 : Ref sig .tc := ⟨.hbm, 15, rfl⟩
abbrev main_v3_8 : Ref sig .tc := ⟨.hbm, 16, rfl⟩
abbrev main_v3_9 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S6144x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2816x17664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x17664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x17664 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2816x17664 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x2816 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2816x17664 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6144x17664 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KRun.lean ====
module

public import proofs.«01_k».proof.Proof.Gen.KernelIdeal.Frame

@[expose] public section

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program ends with every buffer of the TensorCore at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W43 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W43 m ρ c b)
    (hfin := fun c s' => by
      iintro ⟨⟨Hh, -⟩, HSI⟩
      unfold StableHlo.held
      imodintro
      iapply (pointsTo_read_all (Pipeline.ucRefs τ sig) (fun b => (((c : Thread nD τ)).1, b)) (W43 m ρ c) s')
      isplitl [Hh] <;> iassumption)
    (hQ := fun s h hz => h)

end Cert.KernelIdeal.Final
-- ==== Proof.Scale.lean ====
/- The scale of a tensor, as pure arithmetic over the extended reals.

   The kernel finds the exponent of `v = |amax / max|` by COUNTING, over the exponent fields 1 … 255, how many of the
   patterns with that field and a zero fraction are at most `v`, and builds `2^e` and `2^-e` from the field `e + 127`.
   The reference takes the largest `k + 1` over `-126 ≤ k ≤ 127` with `2^k ≤ v` and writes `2^e` with `exp2`.
   Here the two exponents and the two powers are shown to be the same. -/
module

public import Idealize.ShloMosaic.Lib.Pipeline.ValueKit
public import Idealize.ShloMosaic.Lib.Pointwise

@[expose] public section

set_option maxRecDepth 16384

noncomputable section

namespace Cert.Scale

open Idealize.ShloMosaic

/-! ### The patterns with a zero fraction -/

/-- The pattern with exponent field `f` and a zero fraction, as an extended real. -/
def pw (f : ℕ) : EReal := Ideal.ofBits .f32 (BitVec.ofNat 32 f <<< 23)

theorem fields : ∀ f : Fin 256, ((BitVec.ofNat 32 f.val <<< 23 : BitVec 32).extractLsb' 31 1 == 1#1) = false
    ∧ ((BitVec.ofNat 32 f.val <<< 23 : BitVec 32).extractLsb' 23 8).toNat = f.val
    ∧ ((BitVec.ofNat 32 f.val <<< 23 : BitVec 32).extractLsb' 0 23).toNat = 0 := by decide +kernel

theorem ofBits_f32 (b : BitVec 32) : Ideal.ofBits .f32 b = Ideal.ieee 8 23 b := rfl

theorem pw_coe (f : ℕ) (h1 : 1 ≤ f) (h2 : f ≤ 254) : pw f = (((2 : ℝ) ^ ((f : ℤ) - 127) : ℝ) : EReal) := by
  have e := fields ⟨f, by omega⟩
  unfold pw
  rw [ofBits_f32]
  generalize (BitVec.ofNat 32 f <<< 23 : BitVec 32) = b at e ⊢
  obtain ⟨e1, e2, e3⟩ := e
  unfold Ideal.ieee
  simp only [Nat.reduceAdd, e1, e2, e3]
  rw [if_neg (by omega), if_neg (by omega)]
  congr 1
  have h23 : ((2 : ℝ) ^ (23 : ℕ)) = (2 : ℝ) ^ (23 : ℤ) := by norm_cast
  simp only [Bool.false_eq_true, if_false, one_mul, Nat.add_zero, Nat.cast_pow, Nat.cast_ofNat]
  rw [h23, ← zpow_add₀ (by norm_num : (2 : ℝ) ≠ 0)]
  congr 1
  norm_num

theorem pw_255 : pw 255 = ⊤ := by
  have e := fields ⟨255, by omega⟩
  unfold pw
  rw [ofBits_f32]
  generalize (BitVec.ofNat 32 255 <<< 23 : BitVec 32) = b at e ⊢
  obtain ⟨e1, e2, e3⟩ := e
  unfold Ideal.ieee
  simp only [Nat.reduceAdd, e1, e2, e3]
  norm_num

theorem pw_zero : pw 0 = 0 := by
  show Ideal.ofBits .f32 _ = _
  rw [show (BitVec.ofNat 32 0 <<< 23 : BitVec 32) = 0#32 by decide]
  exact Ideal.ofBits_zero .f32

theorem pw_mono {f g : ℕ} (h1 : 1 ≤ f) (h : f ≤ g) (h2 : g ≤ 255) : pw f ≤ pw g := by
  by_cases hg : g = 255
  · subst hg; rw [pw_255]; exact le_top
  · rw [pw_coe f h1 (by omega), pw_coe g (by omega) (by omega), EReal.coe_le_coe_iff]
    exact zpow_le_zpow_right₀ (by norm_num) (by omega)

/-! ### Counting -/

/-- The sum of the words of a test over `Fin n` is the number of elements that pass. -/
theorem fold_addi_count {ι : Type} (s : Finset ι) (p : ι → Bool) :
    s.fold IntOp.addi 0#32 (fun k => (BitVec.ofBool (p k)).setWidth 32)
      = BitVec.ofNat 32 (s.filter fun k => p k = true).card := by
  classical
  induction s using Finset.induction_on with
  | empty => rfl
  | insert a s ha ih =>
    rw [Finset.fold_insert ha, ih, Finset.filter_insert]
    cases hp : p a with
    | false => simp [IntOp.addi]
    | true =>
      rw [if_pos rfl, Finset.card_insert_of_notMem (by simp [ha])]
      show (BitVec.ofBool true).setWidth 32 + _ = _
      rw [show (BitVec.ofBool true).setWidth 32 = BitVec.ofNat 32 1 by decide, ← BitVec.ofNat_add, Nat.add_comm]

/-- A test that passes on an initial segment of `Fin n` passes exactly below its number of passes. -/
theorem iff_lt_count {n : ℕ} (p : Fin n → Prop) [DecidablePred p] (h : ∀ j k : Fin n, j ≤ k → p k → p j) (k : Fin n) :
    p k ↔ k.val < (Finset.univ.filter p).card := by
  constructor
  · intro hk
    have hs : Finset.Iic k ⊆ Finset.univ.filter p := fun j hj => by
      simp only [Finset.mem_filter, Finset.mem_univ, true_and]; exact h j k (Finset.mem_Iic.1 hj) hk
    have := Finset.card_le_card hs
    rw [Fin.card_Iic] at this; omega
  · intro hk
    by_contra hn
    have hs : Finset.univ.filter p ⊆ Finset.Iio k := fun j hj => by
      simp only [Finset.mem_filter, Finset.mem_univ, true_and] at hj
      rw [Finset.mem_Iio]; by_contra hle; exact hn (h k j (not_lt.1 hle) hj)
    have := Finset.card_le_card hs
    rw [Fin.card_Iio] at this; omega

/-- How many of the fields 1 … 255 have a pattern at most `v`. -/
def num (v : EReal) : ℕ := (Finset.univ.filter fun k : Fin 255 => decide (pw (k.val + 1) ≤ v) = true).card

theorem num_le (v : EReal) : num v ≤ 255 := (Finset.card_le_univ _).trans (by simp)

theorem le_iff (v : EReal) (k : ℕ) (hk : k < 255) : pw (k + 1) ≤ v ↔ k < num v := by
  have := iff_lt_count (fun k : Fin 255 => decide (pw (k.val + 1) ≤ v) = true)
    (fun j k hjk hk => by
      simp only [decide_eq_true_eq] at hk ⊢
      exact (pw_mono (by omega) (by have : j.val ≤ k.val := hjk; omega) (by omega)).trans hk) ⟨k, hk⟩
  simpa [num] using this

theorem num_zero (v : EReal) : v < Ideal.ofBits .f32 0x00800000#32 ↔ num v = 0 := by
  have h := le_iff v 0 (by omega)
  have e : Ideal.ofBits .f32 0x00800000#32 = pw (0 + 1) := by
    unfold pw; rw [show (BitVec.ofNat 32 (0 + 1) <<< 23 : BitVec 32) = 0x00800000#32 by decide]
  rw [e, ← not_le, h]; omega

theorem num_top (v : EReal) : v = Ideal.ofBits .f32 0x7F800000#32 ↔ num v = 255 := by
  have h := le_iff v 254 (by omega)
  have e : Ideal.ofBits .f32 0x7F800000#32 = pw (254 + 1) := by
    unfold pw; rw [show (BitVec.ofNat 32 (254 + 1) <<< 23 : BitVec 32) = 0x7F800000#32 by decide]
  have ht : pw (254 + 1) = ⊤ := pw_255
  have := num_le v
  rw [ht, top_le_iff] at h
  rw [e, ht, h]; omega

/-! ### The exponent -/

/-- The exponent word: 0 for a zero, subnormal or infinite argument, else the field's number less 126. -/
def expo (a v : EReal) : BitVec 32 :=
  if a = 0 ∨ num v = 0 ∨ num v = 255 then 0#32 else BitVec.ofNat 32 (num v) - 126#32

theorem toInt_maxsi (x y : BitVec 32) : (IntOp.maxsi x y).toInt = max x.toInt y.toInt := by
  unfold IntOp.maxsi
  split <;> rename_i h <;> simp only [BitVec.slt, BitVec.sle, decide_eq_true_eq] at h <;> omega

theorem toInt_fold {ι : Type} (s : Finset ι) (b : BitVec 32) (f : ι → BitVec 32) :
    (s.fold IntOp.maxsi b f).toInt = s.fold max b.toInt fun k => (f k).toInt := by
  classical
  induction s using Finset.induction_on with
  | empty => rfl
  | insert a s ha ih => rw [Finset.fold_insert ha, Finset.fold_insert ha, toInt_maxsi, ih]

theorem pick_table : ∀ x : Fin 254, (IntOp.addi (IntOp.subi (BitVec.ofNat 32 x.val) 126#32) 1#32).toInt = (x.val : ℤ) - 125 := by
  decide +kernel

theorem num_table : ∀ n : Fin 255, (BitVec.ofNat 32 n.val - 126#32).toInt = (n.val : ℤ) - 126 := by decide +kernel

theorem pick (n : Fin 255) (hn : n.val ≠ 0) :
    Finset.univ.fold IntOp.maxsi 2147483648#32 (fun x : Fin 254 =>
      if x.val < n.val then IntOp.addi (IntOp.subi (BitVec.ofNat 32 x.val) 126#32) 1#32 else 4294967171#32)
      = BitVec.ofNat 32 n.val - 126#32 := by
  apply BitVec.eq_of_toInt_eq
  rw [toInt_fold, num_table]
  have e1 : (2147483648#32 : BitVec 32).toInt = -2147483648 := by decide
  have e2 : (4294967171#32 : BitVec 32).toInt = -125 := by decide
  have hlt := n.isLt
  apply le_antisymm
  · rw [Finset.fold_max_le]
    refine ⟨by rw [e1]; omega, fun x _ => ?_⟩
    split
    · rw [pick_table]; omega
    · rw [e2]; omega
  · rw [Finset.le_fold_max]
    refine .inr ⟨⟨n.val - 1, by omega⟩, Finset.mem_univ _, ?_⟩
    rw [if_pos (by show n.val - 1 < n.val; omega), pick_table]
    show _ ≤ ((n.val - 1 : ℕ) : ℤ) - 125
    omega

theorem expo_range (a v : EReal) : ∃ z : Fin 254, expo a v = BitVec.ofNat 32 z.val - 125#32 := by
  unfold expo
  by_cases h : a = 0 ∨ num v = 0 ∨ num v = 255
  · rw [if_pos h]; exact ⟨⟨125, by omega⟩, by decide⟩
  · rw [if_neg h]
    have := num_le v
    refine ⟨⟨num v - 1, by omega⟩, ?_⟩
    rw [show BitVec.ofNat 32 (num v) = BitVec.ofNat 32 (num v - 1) + 1#32 by
      rw [← BitVec.ofNat_add]; congr 1; omega]
    show _ = BitVec.ofNat 32 (num v - 1) - 125#32
    rw [BitVec.sub_eq_add_neg, BitVec.add_assoc, BitVec.sub_eq_add_neg]
    congr 1

theorem toInt_table : ∀ z : Fin 254, (BitVec.ofNat 32 z.val - 125#32).toInt = (z.val : ℤ) - 125
    ∧ (BitVec.ofNat 32 z.val - 125#32 + 127#32) = BitVec.ofNat 32 (z.val + 2) := by decide +kernel

theorem ori_ofBool (p q : Bool) : IntOp.ori (BitVec.ofBool p) (BitVec.ofBool q) = BitVec.ofBool (p || q) := by
  cases p <;> cases q <;> decide

theorem select_ofBool {α : Type} (p : Bool) (x y : α) : Scalar.select (BitVec.ofBool p) x y = if p = true then x else y := by
  cases p <;> rfl

theorem cmpi_eq (x y : BitVec 32) : IntOp.cmpi .eq x y = BitVec.ofBool (decide (x = y)) := by
  unfold IntOp.cmpi; congr 1

/-! ### The kernel's count and the reference's maximum -/

/-- The kernel's exponent: the count, 0 at either end, less 126; 0 where the maximum is 0. -/
theorem kernel_expo (a v : EReal) (f : Fin 255 → EReal) (hf : ∀ k, f k = pw (k.val + 1)) (b : BitVec 32)
    (hb : b = Finset.univ.fold IntOp.addi 0#32 fun k : Fin 255 => (BitVec.ofBool (decide (f k ≤ v))).setWidth 32) :
    (if a = 0 then 0#32 else
      Scalar.select (IntOp.ori (IntOp.cmpi .eq b 0#32) (IntOp.cmpi .eq b 255#32)) 0#32 (IntOp.subi b 126#32)) = expo a v := by
  have hb' : b = BitVec.ofNat 32 (num v) := by
    rw [hb]
    simp only [hf]
    exact fold_addi_count Finset.univ fun k : Fin 255 => decide (pw (k.val + 1) ≤ v)
  have hl := num_le v
  have h0 : b = 0#32 ↔ num v = 0 := by
    rw [hb', ← BitVec.toNat_inj, BitVec.toNat_ofNat, Nat.mod_eq_of_lt (by omega)]; exact Iff.rfl
  have h1 : b = 255#32 ↔ num v = 255 := by
    rw [hb', ← BitVec.toNat_inj, BitVec.toNat_ofNat, Nat.mod_eq_of_lt (by omega)]; exact Iff.rfl
  unfold expo
  simp only [cmpi_eq, ori_ofBool, select_ofBool, decide_eq_true_eq, Bool.or_eq_true, h0, h1]
  rw [show IntOp.subi b 126#32 = BitVec.ofNat 32 (num v) - 126#32 by rw [hb']; rfl]
  by_cases ha : a = 0
  · simp [ha]
  · by_cases c : num v = 0 ∨ num v = 255
    · simp [ha, c]
    · simp [ha, c]

/-- The reference's exponent: the largest `k + 1` with `2^k ≤ v`; 0 where the maximum is 0 or the argument is
    subnormal or infinite. -/
theorem ref_expo (a v : EReal) (f : Fin 254 → EReal) (hf : ∀ k, f k = pw (k.val + 1)) :
    Scalar.select
      (IntOp.ori (IntOp.ori (BitVec.ofBool (decide (a = 0))) (BitVec.ofBool (decide (v < Ideal.ofBits .f32 0x00800000#32))))
        (BitVec.ofBool (decide (v = Ideal.ofBits .f32 0x7F800000#32)))) 0#32
      (Finset.univ.fold IntOp.maxsi 2147483648#32 fun x : Fin 254 =>
        if f x ≤ v then IntOp.addi (IntOp.subi (BitVec.ofNat 32 x.val) 126#32) 1#32 else 4294967171#32) = expo a v := by
  have hl := num_le v
  unfold expo
  simp only [ori_ofBool, select_ofBool, decide_eq_true_eq, Bool.or_eq_true, num_zero v, num_top v]
  by_cases c : a = 0 ∨ num v = 0 ∨ num v = 255
  · rw [if_pos c, if_pos (by tauto)]
  · rw [if_neg c, if_neg (by tauto)]
    rw [← pick ⟨num v, by omega⟩ (fun h => c (.inr (.inl h)))]
    congr 1
    funext x
    simp only [hf, le_iff v x.val (by omega)]

/-! ### The powers -/

theorem up_table : ∀ z : Fin 254,
    Scalar.select (IntOp.cmpi .sle (IntOp.addi (BitVec.ofNat 32 z.val - 125#32) 127#32) 0#32) 0#32
      (IntOp.shli .host (Scalar.select (IntOp.cmpi .sge (IntOp.addi (BitVec.ofNat 32 z.val - 125#32) 127#32) 255#32) 255#32
        (IntOp.addi (BitVec.ofNat 32 z.val - 125#32) 127#32)) 23#32) = BitVec.ofNat 32 (z.val + 2) <<< 23
    ∧ Scalar.select (IntOp.cmpi .sle (IntOp.addi (-(BitVec.ofNat 32 z.val - 125#32)) 127#32) 0#32) 0#32
      (IntOp.shli .host (Scalar.select (IntOp.cmpi .sge (IntOp.addi (-(BitVec.ofNat 32 z.val - 125#32)) 127#32) 255#32) 255#32
        (IntOp.addi (-(BitVec.ofNat 32 z.val - 125#32)) 127#32)) 23#32) = BitVec.ofNat 32 (252 - z.val) <<< 23
    ∧ (IntOp.cmpi .sge (BitVec.ofNat 32 z.val - 125#32) 128#32) = BitVec.ofBool (decide (z.val = 253))
    ∧ (IntOp.cmpi .sge (BitVec.ofNat 32 z.val - 125#32) 127#32) = BitVec.ofBool (decide (252 ≤ z.val)) := by decide +kernel

theorem exp2_up (z : Fin 254) (hz : z.val ≠ 253) :
    FloatOps.exp2 (F := Ideal) (φ := .f32) (FloatOps.sitofp .f32 (BitVec.ofNat 32 z.val - 125#32)) = pw (z.val + 2) := by
  show Ideal.exp2 ((((BitVec.ofNat 32 z.val - 125#32).toInt : ℝ)) : EReal) = _
  rw [(toInt_table z).1, Ideal.exp2_coe, pw_coe _ (by omega) (by omega), ← Real.rpow_intCast]
  show ((Real.rpow 2 _ : ℝ) : EReal) = ((Real.rpow 2 _ : ℝ) : EReal)
  congr 2
  push_cast
  ring

theorem exp2_down (z : Fin 254) (hz : z.val < 252) :
    FloatOps.exp2 (F := Ideal) (φ := .f32) ((0 : EReal) - FloatOps.sitofp (F := Ideal) .f32 (BitVec.ofNat 32 z.val - 125#32)) = pw (252 - z.val) := by
  show Ideal.exp2 (0 - (((BitVec.ofNat 32 z.val - 125#32).toInt : ℝ) : EReal)) = _
  rw [(toInt_table z).1, zero_sub, ← EReal.coe_neg, Ideal.exp2_coe, pw_coe _ (by omega) (by omega), ← Real.rpow_intCast]
  show ((Real.rpow 2 _ : ℝ) : EReal) = ((Real.rpow 2 _ : ℝ) : EReal)
  congr 2
  push_cast [Nat.cast_sub (show z.val ≤ 252 by omega)]
  ring

/-- The scale `2^e`: the kernel's assembled pattern is the reference's power. -/
def scale (a v : EReal) : EReal :=
  Scalar.select (IntOp.cmpi .sge (expo a v) 128#32) (Ideal.ofBits .f32 0x7F800000#32)
    (FloatOps.exp2 (F := Ideal) (φ := .f32) (FloatOps.sitofp .f32 (expo a v)))

/-- Its reciprocal `2^(-e)`. -/
def inverse (a v : EReal) : EReal :=
  Scalar.select (IntOp.cmpi .sge (expo a v) 127#32) (0 : EReal)
    (FloatOps.exp2 (F := Ideal) (φ := .f32) ((0 : EReal) - FloatOps.sitofp (F := Ideal) .f32 (expo a v)))

theorem kernel_scale (a v : EReal) :
    Ideal.ofBits .f32 (Scalar.select (IntOp.cmpi .sle (IntOp.addi (expo a v) 127#32) 0#32) 0#32
      (IntOp.shli .host (Scalar.select (IntOp.cmpi .sge (IntOp.addi (expo a v) 127#32) 255#32) 255#32
        (IntOp.addi (expo a v) 127#32)) 23#32)) = scale a v := by
  unfold scale
  obtain ⟨z, hz⟩ := expo_range a v
  rw [hz, (up_table z).1, (up_table z).2.2.1, select_ofBool]
  by_cases h : z.val = 253
  · rw [if_pos (by simpa using h), h]; rfl
  · rw [if_neg (by simpa using h), exp2_up z h]; rfl

theorem kernel_inverse (a v : EReal) :
    Ideal.ofBits .f32 (Scalar.select (IntOp.cmpi .sle (IntOp.addi (-(expo a v)) 127#32) 0#32) 0#32
      (IntOp.shli .host (Scalar.select (IntOp.cmpi .sge (IntOp.addi (-(expo a v)) 127#32) 255#32) 255#32
        (IntOp.addi (-(expo a v)) 127#32)) 23#32)) = inverse a v := by
  unfold inverse
  obtain ⟨z, hz⟩ := expo_range a v
  rw [hz, (up_table z).2.1, (up_table z).2.2.2, select_ofBool]
  by_cases h : 252 ≤ z.val
  · rw [if_pos (by simpa using h), show 252 - z.val = 0 by omega]; exact pw_zero
  · rw [if_neg (by simpa using h), exp2_down z (by omega)]; rfl

/-! ### A row of the history -/

/-- The largest entry of a row. -/
def top (h : Fin 16 → EReal) : EReal := Finset.univ.fold max (Ideal.ofBits .f32 4286578688#32) h

/-- The magnitude the exponent is taken of: the largest entry times the margin over the format's largest number. -/
def arg (h : Fin 16 → EReal) (k : BitVec 32) : EReal := FloatOps.absf (F := Ideal) (φ := .f32) (top h * Ideal.ofBits .f32 k)

/-- The thresholds the kernel compares with: exponent fields 1 to 255. -/
theorem shl_table : ∀ x : Fin 255, IntOp.shli .host (IntOp.addi (BitVec.ofNat 32 x.val) 1#32) 23#32 = BitVec.ofNat 32 (x.val + 1) <<< 23 := by
  decide +kernel

/-- The thresholds the reference compares with. -/
theorem exp2_step (x : Fin 254) :
    FloatOps.exp2 (F := Ideal) (φ := .f32) (FloatOps.sitofp .f32 (IntOp.subi (BitVec.ofNat 32 x.val) 126#32)) = pw (x.val + 1) := by
  show Ideal.exp2 ((((BitVec.ofNat 32 x.val - 126#32).toInt : ℝ)) : EReal) = _
  rw [num_table ⟨x.val, by omega⟩, Ideal.exp2_coe, pw_coe _ (by omega) (by omega), ← Real.rpow_intCast]
  show ((Real.rpow 2 _ : ℝ) : EReal) = ((Real.rpow 2 _ : ℝ) : EReal)
  congr 2
  push_cast
  ring

end Cert.Scale

end
-- ==== Proof.Spec.lean ====
module

public import proofs.«01_k».proof.Proof.Scale

@[expose] public section

noncomputable section

namespace Cert.Spec

open Idealize.ShloMosaic

/-! ## What both programs compute, element by element -/

/-- The normalised activation: a row of `x` over its root mean square, times `gamma`. -/
def hval (X : Fin 6144 → Fin 2816 → EReal) (g : Fin 2816 → EReal) (r : Fin 6144) (l : Fin 2816) : EReal :=
  X r l * Ideal.rsqrt (Ideal.div (∑ k, X r k * X r k) (Ideal.ofBits .f32 1160773632#32) + Ideal.ofBits .f32 897988541#32) * g l

/-- A value times the reciprocal scale, clamped to ±448. -/
def q4 (v s : EReal) : EReal := min (Ideal.ofBits .f32 1138753536#32) (max (Ideal.ofBits .f32 3286237184#32) (v * s))

/-- A value times the reciprocal scale, clamped to ±57344. -/
def q5 (v s : EReal) : EReal := min (Ideal.ofBits .f32 1197473792#32) (max (Ideal.ofBits .f32 3344957440#32) (v * s))

/-- The magnitude of a value. -/
def mag (v : EReal) : EReal := FloatOps.absf (F := Ideal) (φ := .f32) v

theorem mag_nonneg (v : EReal) : 0 ≤ mag v := by
  show 0 ≤ max v (-v)
  rcases le_total 0 v with h | h
  · exact le_max_of_le_left h
  · exact le_max_of_le_right (EReal.neg_nonneg.2 h)

theorem bot_bits : Ideal.ofBits .f32 4286578688#32 = ⊥ := by
  rw [Scale.ofBits_f32]
  have e1 : ((4286578688#32 : BitVec 32).extractLsb' 31 1 == 1#1) = true := by decide
  have e2 : ((4286578688#32 : BitVec 32).extractLsb' 23 8).toNat = 255 := by decide
  have e3 : ((4286578688#32 : BitVec 32).extractLsb' 0 23).toNat = 0 := by decide
  generalize (4286578688#32 : BitVec 32) = b at e1 e2 e3 ⊢
  unfold Ideal.ieee
  simp only [Nat.reduceAdd, e1, e2, e3]
  norm_num

end Cert.Spec

end
-- ==== Proof.Peak.lean ====
module

public import proofs.«01_k».proof.Proof.Spec
public import Idealize.ShloMosaic.PureOps.Reduce
public import Idealize.ShloMosaic.PureOps.Ideal.Laws

@[expose] public section

noncomputable section

namespace Cert.Peak

open Idealize.ShloMosaic

/-- The greatest element of a matrix. -/
def peak {a b : Nat} (f : Fin a → Fin b → EReal) : EReal := ⨆ i, ⨆ j, f i j

theorem peak_le {a b : Nat} (f : Fin a → Fin b → EReal) (z : EReal) : peak f ≤ z ↔ ∀ i j, f i j ≤ z := by
  simp only [peak, iSup_le_iff]

/-- A value with the same upper bounds as a matrix is its greatest element. -/
theorem eq_peak {a b : Nat} (f : Fin a → Fin b → EReal) (x : EReal) (h : ∀ z, x ≤ z ↔ ∀ i j, f i j ≤ z) : x = peak f :=
  eq_of_forall_ge_iff fun z => (h z).trans (peak_le f z).symm

/-- The host's maximum of a whole array, from minus infinity. -/
theorem host_le {s t u : Shape} {axes : List (Fin s.rank)} (x : s.Idx → EReal) (init : u.Idx → EReal) (hi : ∀ i, init i = Ideal.ofBits .f32 4286578688#32)
    (h : s.ReducesTo axes t) (hu : 0 < u.numel) (j : t.Idx) (hj : ∀ i : t.Idx, i = j) (z : EReal) :
    Host.reduce (max : EReal → EReal → EReal) x init h hu j ≤ z ↔ ∀ i, x i ≤ z := by
  rw [Host.reduce_eq_fold, Finset.fold_max_le, hi, Spec.bot_bits]
  exact ⟨fun H i => H.2 i (Finset.mem_filter.2 ⟨Finset.mem_univ _, hj _⟩), fun H => ⟨bot_le, fun i _ => H i⟩⟩

/-- The kernel's maximum of a whole array, from minus infinity. -/
theorem multi_le {s t : Shape} {axes : List (Fin s.rank)} (x : FVec Ideal s .f32) (h : s.Reduces axes t) (hφ) (ha)
    (j : t.Idx) (hj : ∀ i : t.Idx, i = j) (z : EReal) :
    (multiReduction .maximumf axes t x 0xFF800000#32 h hφ ha j : EReal) ≤ z ↔ ∀ i, (x i : EReal) ≤ z := by
  rw [multiReduction_maximumf_eq_fold]
  refine (Finset.fold_max_le z).trans ?_
  rw [show (FloatOps.ofBits .f32 0xFF800000#32 : Ideal .f32) = (⊥ : EReal) from Spec.bot_bits]
  exact ⟨fun H i => H.2 i (Finset.mem_filter.2 ⟨Finset.mem_univ _, hj _⟩), fun H => ⟨bot_le, fun i _ => H i⟩⟩

end Cert.Peak
-- ==== Proof.Results.lean ====
module

public import proofs.«01_k».proof.Proof.Peak
public import Idealize.ShloMosaic.Lib.Pointwise

@[expose] public section

noncomputable section

namespace Cert.Spec

open Idealize.ShloMosaic

/-! ## The ten results as functions of the five arguments -/

variable (X : Fin 6144 → Fin 2816 → EReal) (G : Fin 2816 → EReal) (W : Fin 2816 → Fin 17664 → EReal)
  (D : Fin 6144 → Fin 17664 → EReal) (A : Fin 3 → Fin 16 → EReal)

/-- The scale and the inverse scale of one row of the history, from its reciprocal width. -/
def sc (r : Fin 3) (k : BitVec 32) : EReal := Scale.scale (Scale.top (A r)) (Scale.arg (A r) k)

def inv (r : Fin 3) (k : BitVec 32) : EReal := Scale.inverse (Scale.top (A r)) (Scale.arg (A r) k)

/-- The scales of the activations, the weights and the gradients. -/
def s0 : EReal := sc A 0 991054117#32
def s1 : EReal := sc A 1 991054117#32
def s2 : EReal := sc A 2 932333861#32

def hc (r : Fin 6144) (l : Fin 2816) : EReal := q4 (hval X G r l) (inv A 0 991054117#32)
def wc (l : Fin 2816) (j : Fin 17664) : EReal := q4 (W l j) (inv A 1 991054117#32)
def dc (r : Fin 6144) (j : Fin 17664) : EReal := q5 (D r j) (inv A 2 932333861#32)

def y (r : Fin 6144) (j : Fin 17664) : EReal := (∑ k, hc X G A r k * wc W A k j) * (s0 A * s1 A)
def dx (r : Fin 6144) (l : Fin 2816) : EReal := (∑ k, dc D A r k * wc W A l k) * (s2 A * s1 A)
def dw (l : Fin 2816) (j : Fin 17664) : EReal := (∑ k, hc X G A k l * dc D A k j) * (s0 A * s2 A)

/-- The new history: a row's newest entry is a greatest magnitude, the others move up by one place. -/
def newest (r : Fin 3) : EReal :=
  ![Peak.peak fun r l => mag (hval X G r l), Peak.peak fun l j => mag (W l j), Peak.peak fun r j => mag (D r j)] r

def history (r : Fin 3) : Fin 16 → EReal := Fin.cons (newest X G W D r) fun j : Fin 15 => A r j.castSucc

/-! ## Arrays by their coordinates -/

/-- Two arrays of one matrix agree when their matrices do. -/
theorem ext3 {a b : Nat} {α : Type} (f g : (⟨3, ![1, a, b]⟩ : Shape).Idx → α) (h : ∀ r l, f (ix3 0 r l) = g (ix3 0 r l)) : f = g := by
  funext i
  rw [eq_ix3 i, show i 0 = (0 : Fin 1) from Subsingleton.elim (α := Fin 1) _ _]
  exact h _ _

theorem ext2 {a b : Nat} {α : Type} (f g : (⟨2, ![a, b]⟩ : Shape).Idx → α) (h : ∀ r l, f (ix2 r l) = g (ix2 r l)) : f = g := by
  funext i
  rw [eq_ix2 i]
  exact h _ _

end Cert.Spec
-- ==== Proof.KHost.lean ====
module

public import proofs.«01_k».proof.Proof.Gen.KernelIdeal.Frame
public import proofs.«01_k».proof.Proof.Scale
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KernelIdeal.Host

open Idealize.ShloMosaic Idealize.ShloMosaic.TcCoe Idealize.SL.Sem
open Cert.KernelIdeal Cert.KernelIdeal.Gen
open Idealize.ShloMosaic.StableHlo

/-! ## The host lines' scales: each is the scale of its row of the history -/

section lines

variable (V : Valuation τ sig (Elt Ideal))

/-- Row `r` of the history as the lines find it. -/
abbrev row (r : Fin 3) : Fin 16 → EReal := fun x => V (Proc.devRef .tc main_arg4) (ix2 r x)

theorem expo0 (i : S_.Idx) : after (hostOps0_3 (F := Ideal)) (after (hostOps0_2 (F := Ideal)) (after (hostOps0_1 (F := Ideal)) (after (hostOps0 (F := Ideal)) V))) (Proc.devRef .tc main_v21) i
    = Scale.expo (Scale.top (row V 0)) (Scale.arg (row V 0) 991054117#32) := by
  after_reads_at
  exact Scale.kernel_expo (Scale.top (row V 0)) (Scale.arg (row V 0) 991054117#32) _
    (fun x => congrArg (Ideal.ofBits .f32) (Scale.shl_table x)) _ rfl

theorem scale0 (a v : EReal) (h : ∀ i : S_.Idx, V (Proc.devRef .tc main_v21) i = Scale.expo a v) (i : S_.Idx) :
    after (hostOps0_8 (F := Ideal)) (after (hostOps0_7 (F := Ideal)) (after (hostOps0_6 (F := Ideal)) (after (hostOps0_5 (F := Ideal)) (after (hostOps0_4 (F := Ideal)) V)))) (Proc.devRef .tc main_v28) i = Scale.scale a v := by
  rw [← Scale.kernel_scale, ← h i]
  after_reads_at
  rfl

theorem inverse0 (a v : EReal) (h : ∀ i : S_.Idx, V (Proc.devRef .tc main_v21) i = Scale.expo a v) (i : S_.Idx) :
    after (hostOps0_12 (F := Ideal)) (after (hostOps0_11 (F := Ideal)) (after (hostOps0_10 (F := Ideal)) (after (hostOps0_9 (F := Ideal)) (after (hostOps0_8 (F := Ideal)) V)))) (Proc.devRef .tc main_v36) i = Scale.inverse a v := by
  rw [← Scale.kernel_inverse, ← h i]
  after_reads_at
  rfl

theorem expo1 (i : S_.Idx) : after (hostOps0_15 (F := Ideal)) (after (hostOps0_14 (F := Ideal)) (after (hostOps0_13 (F := Ideal)) (after (hostOps0_12 (F := Ideal)) V))) (Proc.devRef .tc main_v58) i
    = Scale.expo (Scale.top (row V 1)) (Scale.arg (row V 1) 991054117#32) := by
  after_reads_at
  exact Scale.kernel_expo (Scale.top (row V 1)) (Scale.arg (row V 1) 991054117#32) _
    (fun x => congrArg (Ideal.ofBits .f32) (Scale.shl_table x)) _ rfl

theorem scale1 (a v : EReal) (h : ∀ i : S_.Idx, V (Proc.devRef .tc main_v58) i = Scale.expo a v) (i : S_.Idx) :
    after (hostOps0_20 (F := Ideal)) (after (hostOps0_19 (F := Ideal)) (after (hostOps0_18 (F := Ideal)) (after (hostOps0_17 (F := Ideal)) (after (hostOps0_16 (F := Ideal)) V)))) (Proc.devRef .tc main_v65) i = Scale.scale a v := by
  rw [← Scale.kernel_scale, ← h i]
  after_reads_at
  rfl

theorem inverse1 (a v : EReal) (h : ∀ i : S_.Idx, V (Proc.devRef .tc main_v58) i = Scale.expo a v) (i : S_.Idx) :
    after (hostOps0_24 (F := Ideal)) (after (hostOps0_23 (F := Ideal)) (after (hostOps0_22 (F := Ideal)) (after (hostOps0_21 (F := Ideal)) (after (hostOps0_20 (F := Ideal)) V)))) (Proc.devRef .tc main_v73) i = Scale.inverse a v := by
  rw [← Scale.kernel_inverse, ← h i]
  after_reads_at
  rfl

theorem expo2 (i : S_.Idx) : after (hostOps0_27 (F := Ideal)) (after (hostOps0_26 (F := Ideal)) (after (hostOps0_25 (F := Ideal)) (after (hostOps0_24 (F := Ideal)) V))) (Proc.devRef .tc main_v95) i
    = Scale.expo (Scale.top (row V 2)) (Scale.arg (row V 2) 932333861#32) := by
  after_reads_at
  exact Scale.kernel_expo (Scale.top (row V 2)) (Scale.arg (row V 2) 932333861#32) _
    (fun x => congrArg (Ideal.ofBits .f32) (Scale.shl_table x)) _ rfl

theorem scale2 (a v : EReal) (h : ∀ i : S_.Idx, V (Proc.devRef .tc main_v95) i = Scale.expo a v) (i : S_.Idx) :
    after (hostOps0_32 (F := Ideal)) (after (hostOps0_31 (F := Ideal)) (after (hostOps0_30 (F := Ideal)) (after (hostOps0_29 (F := Ideal)) (after (hostOps0_28 (F := Ideal)) V)))) (Proc.devRef .tc main_v102) i = Scale.scale a v := by
  rw [← Scale.kernel_scale, ← h i]
  after_reads_at
  rfl

theorem inverse2 (a v : EReal) (h : ∀ i : S_.Idx, V (Proc.devRef .tc main_v95) i = Scale.expo a v) (i : S_.Idx) :
    after (hostOps0_36 (F := Ideal)) (after (hostOps0_35 (F := Ideal)) (after (hostOps0_34 (F := Ideal)) (after (hostOps0_33 (F := Ideal)) (after (hostOps0_32 (F := Ideal)) V)))) (Proc.devRef .tc main_v110) i = Scale.inverse a v := by
  rw [← Scale.kernel_inverse, ← h i]
  after_reads_at
  rfl

end lines

end Cert.KernelIdeal.Host
-- ==== Proof.KEntry.lean ====
module

public import proofs.«01_k».proof.Proof.KHost
public import proofs.«01_k».proof.Proof.Peak

@[expose] public section

set_option maxRecDepth 16384

noncomputable section

namespace Cert.KernelIdeal.Entry

open Idealize.ShloMosaic Idealize.ShloMosaic.TcCoe Idealize.SL.Sem
open Cert.KernelIdeal Cert.KernelIdeal.Gen
open Idealize.ShloMosaic.StableHlo

/-! ## What the regions find: the scales and the arguments at the boundaries of the program -/

variable (m : (ℓ : Loc nD τ sig) → Buf (Elt Ideal) ℓ) (ρ : Dev nD → PrngReg) (c : Dev nD)

/-- Row `r` of the history at launch. -/
abbrev hist (r : Fin 3) : Fin 16 → EReal := fun x => m ((c : Thread nD τ).loc main_arg4) (ix2 r x)

/-- The scale of row `r` with its reciprocal width `k`. -/
abbrev sc (r : Fin 3) (k : BitVec 32) : EReal := Scale.scale (Scale.top (hist m c r)) (Scale.arg (hist m c r) k)

/-- Its inverse. -/
abbrev inv (r : Fin 3) (k : BitVec 32) : EReal := Scale.inverse (Scale.top (hist m c r)) (Scale.arg (hist m c r) k)

theorem expo0 (i : S_.Idx) : W4 m ρ c (Proc.devRef .tc main_v21) i = Scale.expo (Scale.top (hist m c 0)) (Scale.arg (hist m c 0) 991054117#32) := by
  have h : Host.row (W0 m ρ c) 0 = hist m c 0 := by
    funext x
    exact congrFun (rfl) (ix2 0 x)
  rw [← h]
  exact Host.expo0 (W0 m ρ c) i

theorem scale0 (i : S_.Idx) : W9 m ρ c (Proc.devRef .tc main_v28) i = sc m c 0 991054117#32 :=
  Host.scale0 (W4 m ρ c) _ _ (expo0 m ρ c) i

theorem expo0' (i : S_.Idx) : W8 m ρ c (Proc.devRef .tc main_v21) i = Scale.expo (Scale.top (hist m c 0)) (Scale.arg (hist m c 0) 991054117#32) :=
  (congrFun ((W8_of m ρ c main_v21 (by decide)).trans ((W7_of m ρ c main_v21 (by decide)).trans ((W6_of m ρ c main_v21 (by decide)).trans ((W5_of m ρ c main_v21 (by decide)))))) i).trans (expo0 m ρ c i)

theorem inverse0 (i : S_.Idx) : W13 m ρ c (Proc.devRef .tc main_v36) i = inv m c 0 991054117#32 :=
  Host.inverse0 (W8 m ρ c) _ _ (expo0' m ρ c) i

theorem expo1 (i : S_.Idx) : W16 m ρ c (Proc.devRef .tc main_v58) i = Scale.expo (Scale.top (hist m c 1)) (Scale.arg (hist m c 1) 991054117#32) := by
  have h : Host.row (W12 m ρ c) 1 = hist m c 1 := by
    funext x
    exact congrFun (W12_args m ρ c main_arg4 (by decide)) (ix2 1 x)
  rw [← h]
  exact Host.expo1 (W12 m ρ c) i

theorem scale1 (i : S_.Idx) : W21 m ρ c (Proc.devRef .tc main_v65) i = sc m c 1 991054117#32 :=
  Host.scale1 (W16 m ρ c) _ _ (expo1 m ρ c) i

theorem expo1' (i : S_.Idx) : W20 m ρ c (Proc.devRef .tc main_v58) i = Scale.expo (Scale.top (hist m c 1)) (Scale.arg (hist m c 1) 991054117#32) :=
  (congrFun ((W20_of m ρ c main_v58 (by decide)).trans ((W19_of m ρ c main_v58 (by decide)).trans ((W18_of m ρ c main_v58 (by decide)).trans ((W17_of m ρ c main_v58 (by decide)))))) i).trans (expo1 m ρ c i)

theorem inverse1 (i : S_.Idx) : W25 m ρ c (Proc.devRef .tc main_v73) i = inv m c 1 991054117#32 :=
  Host.inverse1 (W20 m ρ c) _ _ (expo1' m ρ c) i

theorem expo2 (i : S_.Idx) : W28 m ρ c (Proc.devRef .tc main_v95) i = Scale.expo (Scale.top (hist m c 2)) (Scale.arg (hist m c 2) 932333861#32) := by
  have h : Host.row (W24 m ρ c) 2 = hist m c 2 := by
    funext x
    exact congrFun (W24_args m ρ c main_arg4 (by decide)) (ix2 2 x)
  rw [← h]
  exact Host.expo2 (W24 m ρ c) i

theorem scale2 (i : S_.Idx) : W33 m ρ c (Proc.devRef .tc main_v102) i = sc m c 2 932333861#32 :=
  Host.scale2 (W28 m ρ c) _ _ (expo2 m ρ c) i

theorem expo2' (i : S_.Idx) : W32 m ρ c (Proc.devRef .tc main_v95) i = Scale.expo (Scale.top (hist m c 2)) (Scale.arg (hist m c 2) 932333861#32) :=
  (congrFun ((W32_of m ρ c main_v95 (by decide)).trans ((W31_of m ρ c main_v95 (by decide)).trans ((W30_of m ρ c main_v95 (by decide)).trans ((W29_of m ρ c main_v95 (by decide)))))) i).trans (expo2 m ρ c i)

theorem inverse2 (i : S_.Idx) : W37 m ρ c (Proc.devRef .tc main_v110) i = inv m c 2 932333861#32 :=
  Host.inverse2 (W32 m ρ c) _ _ (expo2' m ρ c) i

theorem inverse0_at36 (i : S_.Idx) : W36 m ρ c (Proc.devRef .tc main_v36) i = inv m c 0 991054117#32 :=
  (congrFun ((W36_of m ρ c main_v36 (by decide)).trans ((W35_of m ρ c main_v36 (by decide)).trans ((W34_of m ρ c main_v36 (by decide)).trans ((W33_of m ρ c main_v36 (by decide)).trans ((W32_of m ρ c main_v36 (by decide)).trans ((W31_of m ρ c main_v36 (by decide)).trans ((W30_of m ρ c main_v36 (by decide)).trans ((W29_of m ρ c main_v36 (by decide)).trans ((W28_of m ρ c main_v36 (by decide)).trans ((W27_of m ρ c main_v36 (by decide)).trans ((W26_of m ρ c main_v36 (by decide)).trans ((W25_of m ρ c main_v36 (by decide)).trans ((W24_of m ρ c main_v36 (by decide)).trans ((W23_of m ρ c main_v36 (by decide)).trans ((W22_of m ρ c main_v36 (by decide)).trans ((W21_of m ρ c main_v36 (by decide)).trans ((W20_of m ρ c main_v36 (by decide)).trans ((W19_of m ρ c main_v36 (by decide)).trans ((W18_of m ρ c main_v36 (by decide)).trans ((W17_of m ρ c main_v36 (by decide)).trans ((W16_of m ρ c main_v36 (by decide)).trans ((W15_of m ρ c main_v36 (by decide)).trans ((W14_of m ρ c main_v36 (by decide))))))))))))))))))))))))) i).trans (inverse0 m ρ c i)

theorem v28_at38 (i : S_.Idx) : W38 m ρ c (Proc.devRef .tc main_v28) i = sc m c 0 991054117#32 :=
  (congrFun ((W38_of m ρ c main_v28 (by decide)).trans ((W37_of m ρ c main_v28 (by decide)).trans ((W36_of m ρ c main_v28 (by decide)).trans ((W35_of m ρ c main_v28 (by decide)).trans ((W34_of m ρ c main_v28 (by decide)).trans ((W33_of m ρ c main_v28 (by decide)).trans ((W32_of m ρ c main_v28 (by decide)).trans ((W31_of m ρ c main_v28 (by decide)).trans ((W30_of m ρ c main_v28 (by decide)).trans ((W29_of m ρ c main_v28 (by decide)).trans ((W28_of m ρ c main_v28 (by decide)).trans ((W27_of m ρ c main_v28 (by decide)).trans ((W26_of m ρ c main_v28 (by decide)).trans ((W25_of m ρ c main_v28 (by decide)).trans ((W24_of m ρ c main_v28 (by decide)).trans ((W23_of m ρ c main_v28 (by decide)).trans ((W22_of m ρ c main_v28 (by decide)).trans ((W21_of m ρ c main_v28 (by decide)).trans ((W20_of m ρ c main_v28 (by decide)).trans ((W19_of m ρ c main_v28 (by decide)).trans ((W18_of m ρ c main_v28 (by decide)).trans ((W17_of m ρ c main_v28 (by decide)).trans ((W16_of m ρ c main_v28 (by decide)).trans ((W15_of m ρ c main_v28 (by decide)).trans ((W14_of m ρ c main_v28 (by decide)).trans ((W13_of m ρ c main_v28 (by decide)).trans ((W12_of m ρ c main_v28 (by decide)).trans ((W11_of m ρ c main_v28 (by decide)).trans ((W10_of m ρ c main_v28 (by decide))))))))))))))))))))))))))))))) i).trans (scale0 m ρ c i)

theorem v65_at38 (i : S_.Idx) : W38 m ρ c (Proc.devRef .tc main_v65) i = sc m c 1 991054117#32 :=
  (congrFun ((W38_of m ρ c main_v65 (by decide)).trans ((W37_of m ρ c main_v65 (by decide)).trans ((W36_of m ρ c main_v65 (by decide)).trans ((W35_of m ρ c main_v65 (by decide)).trans ((W34_of m ρ c main_v65 (by decide)).trans ((W33_of m ρ c main_v65 (by decide)).trans ((W32_of m ρ c main_v65 (by decide)).trans ((W31_of m ρ c main_v65 (by decide)).trans ((W30_of m ρ c main_v65 (by decide)).trans ((W29_of m ρ c main_v65 (by decide)).trans ((W28_of m ρ c main_v65 (by decide)).trans ((W27_of m ρ c main_v65 (by decide)).trans ((W26_of m ρ c main_v65 (by decide)).trans ((W25_of m ρ c main_v65 (by decide)).trans ((W24_of m ρ c main_v65 (by decide)).trans ((W23_of m ρ c main_v65 (by decide)).trans ((W22_of m ρ c main_v65 (by decide))))))))))))))))))) i).trans (scale1 m ρ c i)

theorem v102_at38 (i : S_.Idx) : W38 m ρ c (Proc.devRef .tc main_v102) i = sc m c 2 932333861#32 :=
  (congrFun ((W38_of m ρ c main_v102 (by decide)).trans ((W37_of m ρ c main_v102 (by decide)).trans ((W36_of m ρ c main_v102 (by decide)).trans ((W35_of m ρ c main_v102 (by decide)).trans ((W34_of m ρ c main_v102 (by decide))))))) i).trans (scale2 m ρ c i)

theorem v73_at38 (i : S_.Idx) : W38 m ρ c (Proc.devRef .tc main_v73) i = inv m c 1 991054117#32 :=
  (congrFun ((W38_of m ρ c main_v73 (by decide)).trans ((W37_of m ρ c main_v73 (by decide)).trans ((W36_of m ρ c main_v73 (by decide)).trans ((W35_of m ρ c main_v73 (by decide)).trans ((W34_of m ρ c main_v73 (by decide)).trans ((W33_of m ρ c main_v73 (by decide)).trans ((W32_of m ρ c main_v73 (by decide)).trans ((W31_of m ρ c main_v73 (by decide)).trans ((W30_of m ρ c main_v73 (by decide)).trans ((W29_of m ρ c main_v73 (by decide)).trans ((W28_of m ρ c main_v73 (by decide)).trans ((W27_of m ρ c main_v73 (by decide)).trans ((W26_of m ρ c main_v73 (by decide))))))))))))))) i).trans (inverse1 m ρ c i)

theorem v110_at38 (i : S_.Idx) : W38 m ρ c (Proc.devRef .tc main_v110) i = inv m c 2 932333861#32 :=
  (congrFun ((W38_of m ρ c main_v110 (by decide))) i).trans (inverse2 m ρ c i)

theorem v65_at40 (i : S_.Idx) : W40 m ρ c (Proc.devRef .tc main_v65) i = sc m c 1 991054117#32 :=
  (congrFun ((W40_of m ρ c main_v65 (by decide)).trans ((W39_of m ρ c main_v65 (by decide)))) i).trans (v65_at38 m ρ c i)

theorem v102_at40 (i : S_.Idx) : W40 m ρ c (Proc.devRef .tc main_v102) i = sc m c 2 932333861#32 :=
  (congrFun ((W40_of m ρ c main_v102 (by decide)).trans ((W39_of m ρ c main_v102 (by decide)))) i).trans (v102_at38 m ρ c i)

theorem v28_at43 (i : S_.Idx) : W43 m ρ c (Proc.devRef .tc main_v28) i = sc m c 0 991054117#32 :=
  (congrFun ((W43_of m ρ c main_v28 (by decide)).trans ((W42_of m ρ c main_v28 (by decide)).trans ((W41_of m ρ c main_v28 (by decide)).trans ((W40_of m ρ c main_v28 (by decide)).trans ((W39_of m ρ c main_v28 (by decide))))))) i).trans (v28_at38 m ρ c i)

theorem v65_at43 (i : S_.Idx) : W43 m ρ c (Proc.devRef .tc main_v65) i = sc m c 1 991054117#32 :=
  (congrFun ((W43_of m ρ c main_v65 (by decide)).trans ((W42_of m ρ c main_v65 (by decide)).trans ((W41_of m ρ c main_v65 (by decide))))) i).trans (v65_at40 m ρ c i)

theorem v102_at43 (i : S_.Idx) : W43 m ρ c (Proc.devRef .tc main_v102) i = sc m c 2 932333861#32 :=
  (congrFun ((W43_of m ρ c main_v102 (by decide)).trans ((W42_of m ρ c main_v102 (by decide)).trans ((W41_of m ρ c main_v102 (by decide))))) i).trans (v102_at40 m ρ c i)

section lines

variable (V : Valuation τ sig (Elt Ideal))

theorem line_v111 (r : Fin 6144) (l : Fin 2816) : after (hostOps0_36 (F := Ideal)) V (Proc.devRef .tc main_v111) (ix2 r l) = V (Proc.devRef .tc main_arg0) (ix3 0 r l) := by
  after_reads_at

theorem line_v112 (r : Fin 6144) (l : Fin 17664) : after (hostOps0_36 (F := Ideal)) V (Proc.devRef .tc main_v112) (ix2 r l) = V (Proc.devRef .tc main_arg3) (ix3 0 r l) := by
  after_reads_at

theorem line_v113 : after (hostOps0_36 (F := Ideal)) V (Proc.devRef .tc main_v113) (ix1 0) = V (Proc.devRef .tc main_v36) ix0 := by
  after_reads_at

theorem line_v114 (l : Fin 2816) : after (hostOps0_36 (F := Ideal)) V (Proc.devRef .tc main_v114) (ix2 0 l) = V (Proc.devRef .tc main_arg1) (ix1 l) := by
  after_reads_at

theorem line_v122_0 : after (hostOps1 (F := Ideal)) V (Proc.devRef .tc main_v122) (ix1 0) = V (Proc.devRef .tc main_v73) ix0 := by
  simp only [hostOps1]
  after_results
  pointwise
  repeat (first
    | (with_unfolding_all rw [unary_result_ne (h := by decide)])
    | (with_unfolding_all rw [binary_result_ne (h := by decide)])
    | (with_unfolding_all rw [nullary_result_ne (h := by decide)]))
  with_unfolding_all rw [unary_result]
  pointwise
  repeat (first
    | (with_unfolding_all rw [unary_result_ne (h := by decide)])
    | (with_unfolding_all rw [binary_result_ne (h := by decide)])
    | (with_unfolding_all rw [nullary_result_ne (h := by decide)]))

theorem line_v122_1 : after (hostOps1 (F := Ideal)) V (Proc.devRef .tc main_v122) (ix1 1) = V (Proc.devRef .tc main_v110) ix0 := by
  simp only [hostOps1]
  after_results
  pointwise
  repeat (first
    | (with_unfolding_all rw [unary_result_ne (h := by decide)])
    | (with_unfolding_all rw [binary_result_ne (h := by decide)])
    | (with_unfolding_all rw [nullary_result_ne (h := by decide)]))
  with_unfolding_all rw [unary_result]
  pointwise
  repeat (first
    | (with_unfolding_all rw [unary_result_ne (h := by decide)])
    | (with_unfolding_all rw [binary_result_ne (h := by decide)])
    | (with_unfolding_all rw [nullary_result_ne (h := by decide)]))

theorem line_v122_2 (d e : EReal) (hd : ∀ i : S_.Idx, V (Proc.devRef .tc main_v28) i = d) (he : ∀ i : S_.Idx, V (Proc.devRef .tc main_v65) i = e) :
    after (hostOps1 (F := Ideal)) V (Proc.devRef .tc main_v122) (ix1 2) = d * e := by
  simp only [hostOps1]
  after_results
  pointwise
  repeat (first
    | (with_unfolding_all rw [unary_result_ne (h := by decide)])
    | (with_unfolding_all rw [binary_result_ne (h := by decide)])
    | (with_unfolding_all rw [nullary_result_ne (h := by decide)]))
  with_unfolding_all rw [unary_result]
  pointwise
  exact congrArg₂ (· * ·) (hd _) (he _)

theorem line_v122_3 (d e : EReal) (hd : ∀ i : S_.Idx, V (Proc.devRef .tc main_v28) i = d) (he : ∀ i : S_.Idx, V (Proc.devRef .tc main_v102) i = e) :
    after (hostOps1 (F := Ideal)) V (Proc.devRef .tc main_v122) (ix1 3) = d * e := by
  simp only [hostOps1]
  after_results
  pointwise
  repeat (first
    | (with_unfolding_all rw [unary_result_ne (h := by decide)])
    | (with_unfolding_all rw [binary_result_ne (h := by decide)])
    | (with_unfolding_all rw [nullary_result_ne (h := by decide)]))
  with_unfolding_all rw [unary_result]
  pointwise
  exact congrArg₂ (· * ·) (hd _) (he _)

theorem line_v125 (e f : EReal) (he : ∀ i : S_.Idx, V (Proc.devRef .tc main_v65) i = e)
    (hf : ∀ i : S_.Idx, V (Proc.devRef .tc main_v102) i = f) : after (hostOps2 (F := Ideal)) V (Proc.devRef .tc main_v125) (ix1 0) = f * e := by
  after_reads_at
  exact congrArg₂ (· * ·) (hf _) (he _)

theorem line_v138 (r : Fin 6144) (l : Fin 2816) : after (hostOps3 (F := Ideal)) V (Proc.devRef .tc main_v138) (ix3 0 r l) = V (Proc.devRef .tc main_v126) (ix2 r l) := by
  after_reads_at

theorem line_v139 (r : Fin 6144) (l : Fin 2816) : after (hostOps3 (F := Ideal)) V (Proc.devRef .tc main_v139) (ix3 0 r l) = V (Proc.devRef .tc main_v115_0) (ix2 r l) := by
  after_reads_at

theorem line_v140 (r : Fin 6144) (l : Fin 17664) : after (hostOps3 (F := Ideal)) V (Proc.devRef .tc main_v140) (ix3 0 r l) = V (Proc.devRef .tc main_v123_3) (ix2 r l) := by
  after_reads_at

theorem line_v136_tail (r : Fin 3) (j : Fin 15) : after (hostOps3 (F := Ideal)) V (Proc.devRef .tc main_v136) (ix2 r j.succ) = V (Proc.devRef .tc main_arg4) (ix2 r j.castSucc) := by
  simp only [hostOps3]
  after_results
  pointwise
  rw [dif_neg (by simp)]
  rfl

theorem line_v136_0 (f : S8x2816.Idx → EReal) (hf : V (Proc.devRef .tc main_v115_2) = f) :
    ∃ x : EReal, after (hostOps3 (F := Ideal)) V (Proc.devRef .tc main_v136) (ix2 0 0) = x ∧ ∀ z, x ≤ z ↔ ∀ i, f i ≤ z := by
  refine ⟨Host.reduce (max : EReal → EReal → EReal) f (constant (F := Ideal) S_ .f32 0xFF800000#32) reducesTo_S8x2816_S_d0_1 h_S_ ix0, ?_,
    Peak.host_le f _ (fun _ => rfl) _ _ _ (fun i => Subsingleton.elim _ _)⟩
  subst hf
  simp only [hostOps3]
  after_results
  pointwise
  repeat (first
    | (with_unfolding_all rw [unary_result_ne (h := by decide)])
    | (with_unfolding_all rw [binary_result_ne (h := by decide)])
    | (with_unfolding_all rw [nullary_result_ne (h := by decide)]))
  with_unfolding_all rw [unary_result]
  pointwise
  repeat (first
    | (with_unfolding_all rw [unary_result_ne (h := by decide)])
    | (with_unfolding_all rw [binary_result_ne (h := by decide)])
    | (with_unfolding_all rw [nullary_result_ne (h := by decide)]))
  with_unfolding_all rw [binary_result]
  repeat (first
    | (with_unfolding_all rw [unary_result_ne (h := by decide)])
    | (with_unfolding_all rw [binary_result_ne (h := by decide)])
    | (with_unfolding_all rw [nullary_result_ne (h := by decide)]))
  with_unfolding_all rw [nullary_result]
  pointwise

theorem line_v136_1 (f : S8x256.Idx → EReal) (hf : V (Proc.devRef .tc main_v123_4) = f) :
    ∃ x : EReal, after (hostOps3 (F := Ideal)) V (Proc.devRef .tc main_v136) (ix2 1 0) = x ∧ ∀ z, x ≤ z ↔ ∀ i, f i ≤ z := by
  refine ⟨Host.reduce (max : EReal → EReal → EReal) f (constant (F := Ideal) S_ .f32 0xFF800000#32) reducesTo_S8x256_S_d0_1 h_S_ ix0, ?_,
    Peak.host_le f _ (fun _ => rfl) _ _ _ (fun i => Subsingleton.elim _ _)⟩
  subst hf
  simp only [hostOps3]
  after_results
  pointwise
  repeat (first
    | (with_unfolding_all rw [unary_result_ne (h := by decide)])
    | (with_unfolding_all rw [binary_result_ne (h := by decide)])
    | (with_unfolding_all rw [nullary_result_ne (h := by decide)]))
  with_unfolding_all rw [unary_result]
  pointwise
  repeat (first
    | (with_unfolding_all rw [unary_result_ne (h := by decide)])
    | (with_unfolding_all rw [binary_result_ne (h := by decide)])
    | (with_unfolding_all rw [nullary_result_ne (h := by decide)]))
  with_unfolding_all rw [binary_result]
  repeat (first
    | (with_unfolding_all rw [unary_result_ne (h := by decide)])
    | (with_unfolding_all rw [binary_result_ne (h := by decide)])
    | (with_unfolding_all rw [nullary_result_ne (h := by decide)]))
  with_unfolding_all rw [nullary_result]
  pointwise

theorem line_v136_2 (f : S8x256.Idx → EReal) (hf : V (Proc.devRef .tc main_v123_5) = f) :
    ∃ x : EReal, after (hostOps3 (F := Ideal)) V (Proc.devRef .tc main_v136) (ix2 2 0) = x ∧ ∀ z, x ≤ z ↔ ∀ i, f i ≤ z := by
  refine ⟨Host.reduce (max : EReal → EReal → EReal) f (constant (F := Ideal) S_ .f32 0xFF800000#32) reducesTo_S8x256_S_d0_1 h_S_ ix0, ?_,
    Peak.host_le f _ (fun _ => rfl) _ _ _ (fun i => Subsingleton.elim _ _)⟩
  subst hf
  simp only [hostOps3]
  after_results
  pointwise
  repeat (first
    | (with_unfolding_all rw [unary_result_ne (h := by decide)])
    | (with_unfolding_all rw [binary_result_ne (h := by decide)])
    | (with_unfolding_all rw [nullary_result_ne (h := by decide)]))
  with_unfolding_all rw [unary_result]
  pointwise
  repeat (first
    | (with_unfolding_all rw [unary_result_ne (h := by decide)])
    | (with_unfolding_all rw [binary_result_ne (h := by decide)])
    | (with_unfolding_all rw [nullary_result_ne (h := by decide)]))
  with_unfolding_all rw [binary_result]
  repeat (first
    | (with_unfolding_all rw [unary_result_ne (h := by decide)])
    | (with_unfolding_all rw [binary_result_ne (h := by decide)])
    | (with_unfolding_all rw [nullary_result_ne (h := by decide)]))
  with_unfolding_all rw [nullary_result]
  pointwise

theorem line_v137 (r : Fin 6144) (l : Fin 17664) : after (hostOps3 (F := Ideal)) V (Proc.devRef .tc main_v137) (ix3 0 r l) = V (Proc.devRef .tc main_v123_0) (ix2 r l) := by
  after_reads_at

end lines

end Cert.KernelIdeal.Entry
-- ==== Proof.K0.lean ====
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

namespace Cert.KernelIdeal.Prep

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx : ∀ t : Fin cfg0.N, win0_0.index t = ![0] ∧ win0_1.index t = ![t.val, 0] ∧ win0_2.index t = ![0, 0]
    ∧ win0_3.index t = ![t.val, 0] ∧ win0_4.index t = ![0, t.val] ∧ win0_5.index t = ![0, 0] :=
  (by decide +kernel : ∀ t : Fin grid0.N, win0_0.index t = ![0] ∧ win0_1.index t = ![t.val, 0] ∧ win0_2.index t = ![0, 0]
    ∧ win0_3.index t = ![t.val, 0] ∧ win0_4.index t = ![0, t.val] ∧ win0_5.index t = ![0, 0])

/-- The reciprocal scale the body reads. -/
theorem ld_one (x : Vec Ideal S1 .f32) (h) (h') :
    View.ld x (Rect.unit (s := S1) ![0] ![1] h) (Shape.Idx.first h') = x (ix1 0) := by
  unfold View.ld
  congr 1
  funext a
  fin_cases a
  rfl

theorem outs_A (c : Dev nD) (t : Fin cfg0.N) (h : t.val % 12 = 0) :
    outsAt0 V c t.val t.isLt = (k0_pay5 (iblk0 V c 1 t) (iblk0 V c 2 t) (iblk0 V c 0 t (ix1 0)),
      k0_pay1 (k0_pay5 (iblk0 V c 1 t) (iblk0 V c 2 t) (iblk0 V c 0 t (ix1 0))),
      k0_pay4 (iblk0 V c 1 t) (iblk0 V c 2 t) (k0_pay2 (F := Ideal))) := by
  rw [outsAt0_A V c t h]
  frame_out
  exact Prod.ext (congrArg (k0_pay5 _ _) (ld_one _ _ _)) (Prod.ext (congrArg (fun s => k0_pay1 (k0_pay5 _ _ s)) (ld_one _ _ _)) rfl)

theorem outs_B (c : Dev nD) (t : Fin cfg0.N) (h : ¬t.val % 12 = 0) :
    outsAt0 V c t.val t.isLt = (k0_pay5 (iblk0 V c 1 t) (iblk0 V c 2 t) (iblk0 V c 0 t (ix1 0)),
      k0_pay1 (k0_pay5 (iblk0 V c 1 t) (iblk0 V c 2 t) (iblk0 V c 0 t (ix1 0))),
      k0_pay4 (iblk0 V c 1 t) (iblk0 V c 2 t) (outsAt0 V c (t.val - 1) (by omega)).2.2) := by
  rw [outsAt0_B V c t h]
  frame_out
  exact Prod.ext (congrArg (k0_pay5 _ _) (ld_one _ _ _)) (Prod.ext (congrArg (fun s => k0_pay1 (k0_pay5 _ _ s)) (ld_one _ _ _)) rfl)

theorem outs_1 (c : Dev nD) (t : Fin cfg0.N) :
    (outsAt0 V c t.val t.isLt).1 = k0_pay5 (iblk0 V c 1 t) (iblk0 V c 2 t) (iblk0 V c 0 t (ix1 0)) := by
  by_cases h : t.val % 12 = 0
  · rw [outs_A V c t h]
  · rw [outs_B V c t h]

theorem outs_2 (c : Dev nD) (t : Fin cfg0.N) :
    (outsAt0 V c t.val t.isLt).2.1 = k0_pay1 (k0_pay5 (iblk0 V c 1 t) (iblk0 V c 2 t) (iblk0 V c 0 t (ix1 0))) := by
  by_cases h : t.val % 12 = 0
  · rw [outs_A V c t h]
  · rw [outs_B V c t h]

/-- `x`, `gamma` and the reciprocal scale as the region finds them. -/
abbrev X (c : Dev nD) (r : Fin 6144) (l : Fin 2816) : EReal := V c main_v111 (ix2 r l)
abbrev G (c : Dev nD) (l : Fin 2816) : EReal := V c main_v114 (ix2 0 l)
abbrev S (c : Dev nD) : EReal := V c main_v113 (ix1 0)

theorem blk1 (c : Dev nD) (t : Fin cfg0.N) (r : Fin 512) (l : Fin 2816) :
    iblk0 V c 1 t (ix2 r l) = X V c ⟨t.val * 512 + r.val, by have := t.isLt; have : cfg0.N = 12 := N_0; omega⟩ l := by
  blk_point [iblk0, idx t]

theorem blk2 (c : Dev nD) (t : Fin cfg0.N) (l : Fin 2816) : iblk0 V c 2 t (ix2 0 l) = G V c l := by
  blk_point [iblk0, idx t]

theorem blk0 (c : Dev nD) (t : Fin cfg0.N) : iblk0 V c 0 t (ix1 0) = S V c := by
  blk_point [iblk0, idx t]

theorem pay5_at (x1 : Vec Ideal S512x2816 .bf16) (x2 : Vec Ideal S1x2816 .bf16) (s : Elt Ideal .f32) (r : Fin 512) (l : Fin 2816) :
    k0_pay5 x1 x2 s (ix2 r l) = Spec.q4 (x1 (ix2 r l) * Ideal.rsqrt
      (Ideal.div (∑ x, x1 (ix2 r x) * x1 (ix2 r x)) (Ideal.ofBits .f32 1160773632#32) + Ideal.ofBits .f32 897988541#32) * x2 (ix2 0 l)) s := by
  pointwise [k0_pay5, k0_pay3]
  rfl

theorem pay4_at (x1 : Vec Ideal S512x2816 .bf16) (x2 : Vec Ideal S1x2816 .bf16) (s : Vec Ideal S8x2816 .f32) (r : Fin 8) (l : Fin 2816) :
    k0_pay4 x1 x2 s (ix2 r l) = max (s (ix2 r l)) (Finset.univ.fold max (Ideal.ofBits .f32 4286578688#32) fun x : Fin 64 =>
      Spec.mag (x1 (ix2 ⟨x.val * 8 + r.val, by omega⟩ l) * Ideal.rsqrt
        (Ideal.div (∑ k, x1 (ix2 ⟨x.val * 8 + r.val, by omega⟩ k) * x1 (ix2 ⟨x.val * 8 + r.val, by omega⟩ k)) (Ideal.ofBits .f32 1160773632#32)
          + Ideal.ofBits .f32 897988541#32) * x2 (ix2 0 l))) := by
  pointwise [k0_pay4, k0_pay3]
  rfl

theorem pay2_at (r : Fin 8) (l : Fin 2816) : k0_pay2 (F := Ideal) (ix2 r l) = 0 := by
  pointwise [k0_pay2]

theorem pay1_at (v : FVec Ideal S512x2816 .fp8e4m3) (r : Fin 512) (l : Fin 2816) : k0_pay1 v (ix2 l r) = v (ix2 r l) := by
  pointwise [k0_pay1]

/-- The array of codes. -/
theorem codes (c : Dev nD) : (dat0 V c).arrAt 3 cfg0.N = fun i => Spec.q4 (Spec.hval (X V c) (G V c) (i 0) (i 1)) (S V c) := by
  refine (dat0 V c).arrAt_eq_of_covers 3 _ (by decide +kernel) fun t _ y => ?_
  blk_simp
  rw [after0_3, outs_1]
  pointwise [k0_pay5, k0_pay3, Spec.q4, Spec.hval]
  simp only [X, G, S]
  blk_point [iblk0, idx t]

theorem codesT (c : Dev nD) : (dat0 V c).arrAt 4 cfg0.N = fun i => Spec.q4 (Spec.hval (X V c) (G V c) (i 1) (i 0)) (S V c) := by
  refine (dat0 V c).arrAt_eq_of_covers 4 _ (by decide +kernel) fun t _ y => ?_
  blk_simp
  rw [after0_4, outs_2]
  pointwise [k0_pay1, k0_pay5, k0_pay3, Spec.q4, Spec.hval]
  simp only [X, G, S]
  blk_point [iblk0, idx t]

end Cert.KernelIdeal.Prep
-- ==== Proof.K0max.lean ====
module

public import proofs.«01_k».proof.Proof.K0

@[expose] public section

set_option maxRecDepth 16384

noncomputable section

namespace Cert.KernelIdeal.Prep

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The running maximum of the activations' magnitudes -/

/-- One step, ordered against a bound: the running value and the tile's 64 rows of this residue. -/
theorem step_le (c : Dev nD) (t : Fin cfg0.N) (s : Vec Ideal S8x2816 .f32) (r : Fin 8) (l : Fin 2816) (z : EReal) :
    k0_pay4 (iblk0 V c 1 t) (iblk0 V c 2 t) s (ix2 r l) ≤ z ↔
      s (ix2 r l) ≤ z ∧ ∀ i : Fin 6144, 512 * t.val ≤ i.val → i.val < 512 * (t.val + 1) → i.val % 8 = r.val →
        Spec.mag (Spec.hval (X V c) (G V c) i l) ≤ z := by
  have ht := t.isLt
  have hN : cfg0.N = 12 := N_0
  rw [pay4_at, max_le_iff, Spec.bot_bits, Finset.fold_max_le]
  refine and_congr_right fun _ => ?_
  simp only [blk1, blk2, bot_le, true_and, Finset.mem_univ, forall_true_left]
  constructor
  · intro h i h1 h2 h3
    have e := h ⟨(i.val - 512 * t.val) / 8, by omega⟩
    have ei : i = ⟨t.val * 512 + ((i.val - 512 * t.val) / 8 * 8 + r.val), by omega⟩ := Fin.ext (by dsimp only; omega)
    rw [ei]
    exact e
  · intro h x
    have := x.isLt
    exact h ⟨t.val * 512 + (x.val * 8 + r.val), by omega⟩ (by dsimp only; omega) (by dsimp only; omega) (by dsimp only; omega)

theorem outs_3_le (c : Dev nD) (r : Fin 8) (l : Fin 2816) (z : EReal) : ∀ (n : ℕ) (h : n < cfg0.N),
    (outsAt0 V c n h).2.2 (ix2 r l) ≤ z ↔
      0 ≤ z ∧ ∀ i : Fin 6144, i.val < 512 * (n + 1) → i.val % 8 = r.val → Spec.mag (Spec.hval (X V c) (G V c) i l) ≤ z
  | 0, h => by
    have e := outs_A V c ⟨0, h⟩ rfl
    rw [show outsAt0 V c 0 h = _ from e]
    dsimp only
    rw [step_le, pay2_at]
    refine and_congr_right fun _ => forall_congr' fun i => ?_
    simp
  | n + 1, h => by
    have hN : cfg0.N = 12 := N_0
    have e := outs_B V c ⟨n + 1, h⟩ (by dsimp only; omega)
    rw [show outsAt0 V c (n + 1) h = _ from e]
    dsimp only
    rw [step_le]
    have ih := outs_3_le c r l z n (by omega)
    refine (and_congr_left' ih).trans ?_
    rw [and_assoc]
    refine and_congr_right fun _ => ?_
    constructor
    · rintro ⟨h1, h2⟩ i hi hr
      by_cases hlt : i.val < 512 * (n + 1)
      · exact h1 i hlt hr
      · exact h2 i (by dsimp only; omega) (by dsimp only; omega) hr
    · intro h1
      exact ⟨fun i hi hr => h1 i (by omega) hr, fun i _ hi hr => h1 i hi hr⟩

/-- The array of partial maxima is what the last point leaves. -/
theorem amax_eq (c : Dev nD) : (dat0 V c).arrAt 5 cfg0.N = (outsAt0 V c t0_11.val t0_11.isLt).2.2 := by
  refine (dat0 V c).arrAt_eq_of_after_last 5 t0_11 (by decide +kernel) _ fun j => ?_
  blk_simp
  rw [after0_5]

/-- Its entry `(r, l)` bounds the magnitudes of the rows `r` modulo 8 at column `l`. -/
theorem amax_le (c : Dev nD) (r : Fin 8) (l : Fin 2816) (z : EReal) :
    (outsAt0 V c t0_11.val t0_11.isLt).2.2 (ix2 r l) ≤ z ↔
      0 ≤ z ∧ ∀ i : Fin 6144, i.val % 8 = r.val → Spec.mag (Spec.hval (X V c) (G V c) i l) ≤ z := by
  rw [outs_3_le]
  refine and_congr_right fun _ => forall_congr' fun i => ?_
  have := i.isLt
  exact ⟨fun h => h (show i.val < 512 * (11 + 1) by omega), fun h _ => h⟩

end Cert.KernelIdeal.Prep
-- ==== Proof.K1.lean ====
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

namespace Cert.KernelIdeal.Main

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx : ∀ t : Fin cfg1.N, win1_0.index t = ![0] ∧ win1_1.index t = ![0, 0] ∧ win1_2.index t = ![0, 0]
    ∧ win1_3.index t = ![0, t.val] ∧ win1_4.index t = ![0, t.val] ∧ win1_5.index t = ![0, t.val] ∧ win1_6.index t = ![0, t.val]
    ∧ win1_7.index t = ![0, t.val] ∧ win1_8.index t = ![0, t.val] ∧ win1_9.index t = ![0, 0] ∧ win1_10.index t = ![0, 0] :=
  (by decide +kernel : ∀ t : Fin grid1.N, win1_0.index t = ![0] ∧ win1_1.index t = ![0, 0] ∧ win1_2.index t = ![0, 0]
    ∧ win1_3.index t = ![0, t.val] ∧ win1_4.index t = ![0, t.val] ∧ win1_5.index t = ![0, t.val] ∧ win1_6.index t = ![0, t.val]
    ∧ win1_7.index t = ![0, t.val] ∧ win1_8.index t = ![0, t.val] ∧ win1_9.index t = ![0, 0] ∧ win1_10.index t = ![0, 0])

/-- A product block: a row of the left codes against a column of the right ones, times a scale. -/
def yT (hq : Vec Ideal S6144x2816 .fp8e4m3) (w : Vec Ideal S2816x256 .fp8e4m3) (s : EReal) : Vec Ideal S6144x256 .bf16 :=
  fun y => (∑ k : Fin 2816, hq (ix2 (y 0) k) * w (ix2 k (y 1))) * s

def dT (ht : Vec Ideal S2816x6144 .fp8e4m3) (d : Vec Ideal S6144x256 .fp8e5m2) (s : EReal) : Vec Ideal S2816x256 .f32 :=
  fun y => (∑ k : Fin 6144, ht (ix2 (y 0) k) * d (ix2 k (y 1))) * s

/-- An element of the scales the body reads. -/
theorem ld_one (x : Vec Ideal S4 .f32) (k : Fin 4) (h) (h') :
    View.ld x (Rect.unit (s := S4) ![k.val] ![1] h) (Shape.Idx.first h') = x (ix1 k) := by
  unfold View.ld
  congr 1
  funext a
  fin_cases a
  apply Fin.ext
  show k.val + 1 * 0 = k.val
  omega

/-- The codes of the weights' and the gradients' tiles. -/
abbrev wq (c : Dev nD) (t : Fin cfg1.N) : FVec Ideal S2816x256 .fp8e4m3 := k1_pay7 (iblk1 V c 3 t) (iblk1 V c 0 t (ix1 0))
abbrev dq (c : Dev nD) (t : Fin cfg1.N) : FVec Ideal S6144x256 .fp8e5m2 := k1_pay10 (iblk1 V c 4 t) (iblk1 V c 0 t (ix1 1))

theorem y_at (c : Dev nD) (t : Fin cfg1.N) (y : S6144x256.Idx) :
    (outsAt1 V c t.val t.isLt).1 y = yT (iblk1 V c 1 t) (wq V c t) (iblk1 V c 0 t (ix1 2)) y := by
  by_cases h : t.val % 69 = 0
  · rw [outsAt1_A V c t h]
    frame_out
    clear h
    canon_tiles x h
    all_goals (pointwise [k1_pay7, k1_pay12, k1_pay13, k1_pay14, k1_pay15, k1_pay16, k1_pay17, k1_pay18, yT, wq]; blk_point)
  · rw [outsAt1_B V c t h]
    frame_out
    clear h
    canon_tiles x h
    all_goals (pointwise [k1_pay7, k1_pay12, k1_pay13, k1_pay14, k1_pay15, k1_pay16, k1_pay17, k1_pay18, yT, wq]; blk_point)

theorem d_at (c : Dev nD) (t : Fin cfg1.N) (y : S2816x256.Idx) :
    (outsAt1 V c t.val t.isLt).2.1 y = dT (iblk1 V c 2 t) (dq V c t) (iblk1 V c 0 t (ix1 3)) y := by
  by_cases h : t.val % 69 = 0
  · rw [outsAt1_A V c t h]
    frame_out
    clear h
    canon_tiles x h
    all_goals (pointwise [k1_pay10, k1_pay1, k1_pay2, k1_pay3, k1_pay4, k1_pay19, k1_pay20, dT, dq]; blk_point)
  · rw [outsAt1_B V c t h]
    frame_out
    clear h
    canon_tiles x h
    all_goals (pointwise [k1_pay10, k1_pay1, k1_pay2, k1_pay3, k1_pay4, k1_pay19, k1_pay20, dT, dq]; blk_point)

end Cert.KernelIdeal.Main
-- ==== Proof.K1fin.lean ====
module

public import proofs.«01_k».proof.Proof.K1

@[expose] public section

set_option maxRecDepth 16384

noncomputable section

namespace Cert.KernelIdeal.Main

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The scales, codes, weights and gradients as the region finds them -/

abbrev S (c : Dev nD) (k : Fin 4) : EReal := V c main_v122 (ix1 k)
abbrev Hq (c : Dev nD) (r : Fin 6144) (l : Fin 2816) : EReal := V c main_v115_0 (ix2 r l)
abbrev Ht (c : Dev nD) (l : Fin 2816) (r : Fin 6144) : EReal := V c main_v115_1 (ix2 l r)
abbrev W (c : Dev nD) (l : Fin 2816) (j : Fin 17664) : EReal := V c main_arg2 (ix2 l j)
abbrev D (c : Dev nD) (r : Fin 6144) (j : Fin 17664) : EReal := V c main_v112 (ix2 r j)

theorem outs_tail (c : Dev nD) (t : Fin cfg1.N) :
    (outsAt1 V c t.val t.isLt).2.2.1 = wq V c t ∧ (outsAt1 V c t.val t.isLt).2.2.2.1 = dq V c t := by
  by_cases h : t.val % 69 = 0
  · rw [outsAt1_A V c t h]
    frame_out
    exact ⟨congrArg (k1_pay7 _) (ld_one _ 0 _ _), congrArg (k1_pay10 _) (ld_one _ 1 _ _)⟩
  · rw [outsAt1_B V c t h]
    frame_out
    exact ⟨congrArg (k1_pay7 _) (ld_one _ 0 _ _), congrArg (k1_pay10 _) (ld_one _ 1 _ _)⟩

theorem wcodes (c : Dev nD) : (dat1 V c).arrAt 7 cfg1.N = fun i => Spec.q4 (W V c (i 0) (i 1)) (S V c 0) := by
  refine (dat1 V c).arrAt_eq_of_covers 7 _ (by decide +kernel) fun t _ y => ?_
  blk_simp
  rw [after1_7, (outs_tail V c t).1]
  pointwise [k1_pay7, Spec.q4, wq]
  simp only [W, S]
  blk_point [iblk1, idx t]

theorem dcodes (c : Dev nD) : (dat1 V c).arrAt 8 cfg1.N = fun i => Spec.q5 (D V c (i 0) (i 1)) (S V c 1) := by
  refine (dat1 V c).arrAt_eq_of_covers 8 _ (by decide +kernel) fun t _ y => ?_
  blk_simp
  rw [after1_8, (outs_tail V c t).2]
  pointwise [k1_pay10, k1_pay9, Spec.q5, dq]
  simp only [D, S]
  blk_point [iblk1, idx t]

theorem yarr (c : Dev nD) : (dat1 V c).arrAt 5 cfg1.N
    = fun i => (∑ k, Hq V c (i 0) k * Spec.q4 (W V c k (i 1)) (S V c 0)) * S V c 2 := by
  refine (dat1 V c).arrAt_eq_of_covers 5 _ (by decide +kernel) fun t _ y => ?_
  blk_simp
  rw [after1_5, y_at]
  pointwise [yT, wq, k1_pay7, Spec.q4]
  simp only [W, S, Hq]
  blk_point [iblk1, idx t]

theorem darr (c : Dev nD) : (dat1 V c).arrAt 6 cfg1.N
    = fun i => (∑ k, Ht V c (i 0) k * Spec.q5 (D V c k (i 1)) (S V c 1)) * S V c 3 := by
  refine (dat1 V c).arrAt_eq_of_covers 6 _ (by decide +kernel) fun t _ y => ?_
  blk_simp
  rw [after1_6, d_at]
  pointwise [dT, dq, k1_pay10, k1_pay9, Spec.q5]
  simp only [D, S, Ht]
  blk_point [iblk1, idx t]

end Cert.KernelIdeal.Main
-- ==== Proof.K1max.lean ====
module

public import proofs.«01_k».proof.Proof.K1

@[expose] public section

set_option maxRecDepth 16384

noncomputable section

namespace Cert.KernelIdeal.Main

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

abbrev tlast : Fin cfg1.N := ⟨68, by have : cfg1.N = 69 := N_1; omega⟩

/-! ## The running maxima of the weights' and the gradients' magnitudes -/

theorem wblk (c : Dev nD) (t : Fin cfg1.N) (r : Fin 2816) (q : Fin 256) :
    iblk1 V c 3 t (ix2 r q) = V c main_arg2 (ix2 r ⟨t.val * 256 + q.val, by have := t.isLt; have : cfg1.N = 69 := N_1; omega⟩) := by
  blk_point [iblk1, idx t]

theorem wpay_at (x : Vec Ideal S2816x256 .bf16) (s : Vec Ideal S8x256 .f32) (r : Fin 8) (q : Fin 256) :
    k1_pay8 x s (ix2 r q) = max (s (ix2 r q)) (Finset.univ.fold max (Ideal.ofBits .f32 4286578688#32) fun k : Fin 352 =>
      Spec.mag (x (ix2 ⟨k.val * 8 + r.val, by omega⟩ q))) := by
  pointwise [k1_pay8]
  rfl

theorem wzero_at (r : Fin 8) (q : Fin 256) : k1_pay5 (F := Ideal) (ix2 r q) = 0 := by
  pointwise [k1_pay5]

theorem wout_A (c : Dev nD) (t : Fin cfg1.N) (h : t.val % 69 = 0) :
    (outsAt1 V c t.val t.isLt).2.2.2.2.1 = k1_pay8 (iblk1 V c 3 t) (k1_pay5 (F := Ideal)) := by
  rw [outsAt1_A V c t h]
  frame_out

theorem wout_B (c : Dev nD) (t : Fin cfg1.N) (h : ¬t.val % 69 = 0) :
    (outsAt1 V c t.val t.isLt).2.2.2.2.1 = k1_pay8 (iblk1 V c 3 t) (outsAt1 V c (t.val - 1) (by omega)).2.2.2.2.1 := by
  rw [outsAt1_B V c t h]
  frame_out

/-- One step, ordered against a bound: the running value and this tile's columns of this residue. -/
theorem wstep_le (c : Dev nD) (t : Fin cfg1.N) (s : Vec Ideal S8x256 .f32) (r : Fin 8) (q : Fin 256) (z : EReal) :
    k1_pay8 (iblk1 V c 3 t) s (ix2 r q) ≤ z ↔
      s (ix2 r q) ≤ z ∧ ∀ (i : Fin 2816) (j : Fin 17664), i.val % 8 = r.val → j.val / 256 = t.val → j.val % 256 = q.val →
        Spec.mag (V c main_arg2 (ix2 i j)) ≤ z := by
  have ht := t.isLt
  have hN : cfg1.N = 69 := N_1
  rw [wpay_at, max_le_iff, Spec.bot_bits, Finset.fold_max_le]
  refine and_congr_right fun _ => ?_
  simp only [wblk, bot_le, true_and, Finset.mem_univ, forall_true_left]
  constructor
  · intro h i j h1 h2 h3
    have e := h ⟨i.val / 8, by omega⟩
    have ei : i = ⟨i.val / 8 * 8 + r.val, by omega⟩ := Fin.ext (by dsimp only; omega)
    have ej : j = ⟨t.val * 256 + q.val, by omega⟩ := Fin.ext (by dsimp only; omega)
    rw [ei, ej]
    exact e
  · intro h x
    have := x.isLt
    exact h ⟨x.val * 8 + r.val, by omega⟩ ⟨t.val * 256 + q.val, by omega⟩ (by dsimp only; omega) (by dsimp only; omega) (by dsimp only; omega)

theorem wouts_le (c : Dev nD) (r : Fin 8) (q : Fin 256) (z : EReal) : ∀ (n : ℕ) (h : n < cfg1.N),
    (outsAt1 V c n h).2.2.2.2.1 (ix2 r q) ≤ z ↔
      0 ≤ z ∧ ∀ (i : Fin 2816) (j : Fin 17664), i.val % 8 = r.val → j.val / 256 ≤ n → j.val % 256 = q.val →
        Spec.mag (V c main_arg2 (ix2 i j)) ≤ z
  | 0, h => by
    rw [show (outsAt1 V c 0 h).2.2.2.2.1 = _ from wout_A V c ⟨0, h⟩ rfl, wstep_le, wzero_at]
    refine and_congr_right fun _ => forall_congr' fun i => forall_congr' fun j => ?_
    simp only [Nat.le_zero]
  | n + 1, h => by
    have hN : cfg1.N = 69 := N_1
    rw [show (outsAt1 V c (n + 1) h).2.2.2.2.1 = _ from wout_B V c ⟨n + 1, h⟩ (by dsimp only; omega), wstep_le]
    have ih := wouts_le c r q z n (by omega)
    refine (and_congr_left' ih).trans ?_
    rw [and_assoc]
    refine and_congr_right fun _ => ?_
    constructor
    · rintro ⟨h1, h2⟩ i j hi hj hq
      by_cases hlt : j.val / 256 ≤ n
      · exact h1 i j hi hlt hq
      · exact h2 i j hi (by dsimp only; omega) hq
    · intro h1
      exact ⟨fun i j hi hj hq => h1 i j hi (by omega) hq, fun i j hi hj hq => h1 i j hi (le_of_eq hj) hq⟩

/-- The array of partial maxima is what the last point leaves. -/
theorem wmax_eq (c : Dev nD) : (dat1 V c).arrAt 9 cfg1.N = (outsAt1 V c tlast.val tlast.isLt).2.2.2.2.1 := by
  refine (dat1 V c).arrAt_eq_of_after_last 9 tlast (by decide +kernel) _ fun j => ?_
  blk_simp
  rw [after1_9]

theorem wmax_le (c : Dev nD) (r : Fin 8) (q : Fin 256) (z : EReal) :
    (outsAt1 V c tlast.val tlast.isLt).2.2.2.2.1 (ix2 r q) ≤ z ↔
      0 ≤ z ∧ ∀ (i : Fin 2816) (j : Fin 17664), i.val % 8 = r.val → j.val % 256 = q.val → Spec.mag (V c main_arg2 (ix2 i j)) ≤ z := by
  rw [wouts_le]
  refine and_congr_right fun _ => forall_congr' fun i => forall_congr' fun j => ?_
  have := j.isLt
  exact ⟨fun h hi => h hi (show j.val / 256 ≤ 68 by omega), fun h hi _ => h hi⟩

theorem dblk (c : Dev nD) (t : Fin cfg1.N) (r : Fin 6144) (q : Fin 256) :
    iblk1 V c 4 t (ix2 r q) = V c main_v112 (ix2 r ⟨t.val * 256 + q.val, by have := t.isLt; have : cfg1.N = 69 := N_1; omega⟩) := by
  blk_point [iblk1, idx t]

theorem dpay_at (x : Vec Ideal S6144x256 .bf16) (s : Vec Ideal S8x256 .f32) (r : Fin 8) (q : Fin 256) :
    k1_pay11 (k1_pay9 x) s (ix2 r q) = max (s (ix2 r q)) (Finset.univ.fold max (Ideal.ofBits .f32 4286578688#32) fun k : Fin 768 =>
      Spec.mag (x (ix2 ⟨k.val * 8 + r.val, by omega⟩ q))) := by
  pointwise [k1_pay11, k1_pay9]
  rfl

theorem dzero_at (r : Fin 8) (q : Fin 256) : k1_pay6 (F := Ideal) (ix2 r q) = 0 := by
  pointwise [k1_pay6]

theorem dout_A (c : Dev nD) (t : Fin cfg1.N) (h : t.val % 69 = 0) :
    (outsAt1 V c t.val t.isLt).2.2.2.2.2 = k1_pay11 (k1_pay9 (iblk1 V c 4 t)) (k1_pay6 (F := Ideal)) := by
  rw [outsAt1_A V c t h]
  frame_out

theorem dout_B (c : Dev nD) (t : Fin cfg1.N) (h : ¬t.val % 69 = 0) :
    (outsAt1 V c t.val t.isLt).2.2.2.2.2 = k1_pay11 (k1_pay9 (iblk1 V c 4 t)) (outsAt1 V c (t.val - 1) (by omega)).2.2.2.2.2 := by
  rw [outsAt1_B V c t h]
  frame_out

/-- One step, ordered against a bound: the running value and this tile's columns of this residue. -/
theorem dstep_le (c : Dev nD) (t : Fin cfg1.N) (s : Vec Ideal S8x256 .f32) (r : Fin 8) (q : Fin 256) (z : EReal) :
    k1_pay11 (k1_pay9 (iblk1 V c 4 t)) s (ix2 r q) ≤ z ↔
      s (ix2 r q) ≤ z ∧ ∀ (i : Fin 6144) (j : Fin 17664), i.val % 8 = r.val → j.val / 256 = t.val → j.val % 256 = q.val →
        Spec.mag (V c main_v112 (ix2 i j)) ≤ z := by
  have ht := t.isLt
  have hN : cfg1.N = 69 := N_1
  rw [dpay_at, max_le_iff, Spec.bot_bits, Finset.fold_max_le]
  refine and_congr_right fun _ => ?_
  simp only [dblk, bot_le, true_and, Finset.mem_univ, forall_true_left]
  constructor
  · intro h i j h1 h2 h3
    have e := h ⟨i.val / 8, by omega⟩
    have ei : i = ⟨i.val / 8 * 8 + r.val, by omega⟩ := Fin.ext (by dsimp only; omega)
    have ej : j = ⟨t.val * 256 + q.val, by omega⟩ := Fin.ext (by dsimp only; omega)
    rw [ei, ej]
    exact e
  · intro h x
    have := x.isLt
    exact h ⟨x.val * 8 + r.val, by omega⟩ ⟨t.val * 256 + q.val, by omega⟩ (by dsimp only; omega) (by dsimp only; omega) (by dsimp only; omega)

theorem douts_le (c : Dev nD) (r : Fin 8) (q : Fin 256) (z : EReal) : ∀ (n : ℕ) (h : n < cfg1.N),
    (outsAt1 V c n h).2.2.2.2.2 (ix2 r q) ≤ z ↔
      0 ≤ z ∧ ∀ (i : Fin 6144) (j : Fin 17664), i.val % 8 = r.val → j.val / 256 ≤ n → j.val % 256 = q.val →
        Spec.mag (V c main_v112 (ix2 i j)) ≤ z
  | 0, h => by
    rw [show (outsAt1 V c 0 h).2.2.2.2.2 = _ from dout_A V c ⟨0, h⟩ rfl, dstep_le, dzero_at]
    refine and_congr_right fun _ => forall_congr' fun i => forall_congr' fun j => ?_
    simp only [Nat.le_zero]
  | n + 1, h => by
    have hN : cfg1.N = 69 := N_1
    rw [show (outsAt1 V c (n + 1) h).2.2.2.2.2 = _ from dout_B V c ⟨n + 1, h⟩ (by dsimp only; omega), dstep_le]
    have ih := douts_le c r q z n (by omega)
    refine (and_congr_left' ih).trans ?_
    rw [and_assoc]
    refine and_congr_right fun _ => ?_
    constructor
    · rintro ⟨h1, h2⟩ i j hi hj hq
      by_cases hlt : j.val / 256 ≤ n
      · exact h1 i j hi hlt hq
      · exact h2 i j hi (by dsimp only; omega) hq
    · intro h1
      exact ⟨fun i j hi hj hq => h1 i j hi (by omega) hq, fun i j hi hj hq => h1 i j hi (le_of_eq hj) hq⟩

/-- The array of partial maxima is what the last point leaves. -/
theorem dmax_eq (c : Dev nD) : (dat1 V c).arrAt 10 cfg1.N = (outsAt1 V c tlast.val tlast.isLt).2.2.2.2.2 := by
  refine (dat1 V c).arrAt_eq_of_after_last 10 tlast (by decide +kernel) _ fun j => ?_
  blk_simp
  rw [after1_10]

theorem dmax_le (c : Dev nD) (r : Fin 8) (q : Fin 256) (z : EReal) :
    (outsAt1 V c tlast.val tlast.isLt).2.2.2.2.2 (ix2 r q) ≤ z ↔
      0 ≤ z ∧ ∀ (i : Fin 6144) (j : Fin 17664), i.val % 8 = r.val → j.val % 256 = q.val → Spec.mag (V c main_v112 (ix2 i j)) ≤ z := by
  rw [douts_le]
  refine and_congr_right fun _ => forall_congr' fun i => forall_congr' fun j => ?_
  have := j.isLt
  exact ⟨fun h hi => h hi (show j.val / 256 ≤ 68 by omega), fun h hi _ => h hi⟩

end Cert.KernelIdeal.Main
-- ==== Proof.K2.lean ====
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

namespace Cert.KernelIdeal.Dx

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx : ∀ t : Fin cfg2.N, win2_0.index t = ![0] ∧ win2_1.index t = ![t.val / 11, 0] ∧ win2_2.index t = ![t.val % 11, 0]
    ∧ win2_3.index t = ![t.val / 11, t.val % 11] :=
  (by decide +kernel : ∀ t : Fin grid2.N, win2_0.index t = ![0] ∧ win2_1.index t = ![t.val / 11, 0] ∧ win2_2.index t = ![t.val % 11, 0]
    ∧ win2_3.index t = ![t.val / 11, t.val % 11])

abbrev S (c : Dev nD) : EReal := V c main_v125 (ix1 0)
abbrev Dq (c : Dev nD) (r : Fin 6144) (k : Fin 17664) : EReal := V c main_v123_3 (ix2 r k)
abbrev Wq (c : Dev nD) (l : Fin 2816) (k : Fin 17664) : EReal := V c main_v123_2 (ix2 l k)

theorem outs (c : Dev nD) (t : Fin cfg2.N) : outsAt2 V c t = k2_pay1 (iblk2 V c 1 t) (iblk2 V c 2 t) (iblk2 V c 0 t (ix1 0)) := by
  unfold outsAt2
  frame_out
  refine congrArg (k2_pay1 _ _) ?_
  unfold View.ld
  congr 1
  funext a
  fin_cases a
  rfl

/-- The array of `dx`. -/
theorem dx (c : Dev nD) : (dat2 V c).arrAt 3 cfg2.N = fun i => (∑ k, Dq V c (i 0) k * Wq V c (i 1) k) * S V c := by
  refine (dat2 V c).arrAt_eq_of_covers 3 _ (by decide +kernel) fun t _ y => ?_
  blk_simp
  rw [after2_3, outs]
  pointwise [k2_pay1]
  simp only [S, Dq, Wq]
  blk_point [iblk2, idx t]

end Cert.KernelIdeal.Dx
-- ==== Proof.KValue.lean ====
module

public import proofs.«01_k».proof.Proof.Results
public import proofs.«01_k».proof.Proof.KEntry
public import proofs.«01_k».proof.Proof.K0max
public import proofs.«01_k».proof.Proof.K1fin
public import proofs.«01_k».proof.Proof.K1max
public import proofs.«01_k».proof.Proof.K2

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Spec (ext2 ext3)

variable (m : (ℓ : Loc nD τ sig) → Buf (Elt Ideal) ℓ) (ρ : Dev nD → PrngReg) (c : Dev nD)

/-! ## The arguments -/

abbrev X (r : Fin 6144) (l : Fin 2816) : EReal := m ((c : Thread nD τ).loc main_arg0) (ix3 0 r l)
abbrev G (l : Fin 2816) : EReal := m ((c : Thread nD τ).loc main_arg1) (ix1 l)
abbrev W (l : Fin 2816) (j : Fin 17664) : EReal := m ((c : Thread nD τ).loc main_arg2) (ix2 l j)
abbrev D (r : Fin 6144) (j : Fin 17664) : EReal := m ((c : Thread nD τ).loc main_arg3) (ix3 0 r j)
abbrev A (r : Fin 3) (x : Fin 16) : EReal := m ((c : Thread nD τ).loc main_arg4) (ix2 r x)

/-! ## The first region's entry and what it leaves -/

theorem x_at : Prep.X (V37 m ρ) c = X m c := by
  funext r l
  exact (Entry.line_v111 (W36 m ρ c) r l).trans (congrFun (W36_args m ρ c main_arg0 (by decide)) _)

theorem g_at : Prep.G (V37 m ρ) c = G m c := by
  funext l
  exact (Entry.line_v114 (W36 m ρ c) l).trans (congrFun (W36_args m ρ c main_arg1 (by decide)) _)

theorem s_at : Prep.S (V37 m ρ) c = Spec.inv (A m c) 0 991054117#32 :=
  (Entry.line_v113 (W36 m ρ c)).trans (Entry.inverse0_at36 m ρ c _)

theorem codes : W38 m ρ c (Proc.devRef .tc main_v115_0) = fun i => Spec.hc (X m c) (G m c) (A m c) (i 0) (i 1) := by
  refine (W38_arr m ρ c 3).trans ((Prep.codes (V37 m ρ) c).trans ?_)
  rw [x_at, g_at, s_at]
  rfl

theorem codesT : W38 m ρ c (Proc.devRef .tc main_v115_1) = fun i => Spec.hc (X m c) (G m c) (A m c) (i 1) (i 0) := by
  refine (W38_arr m ρ c 4).trans ((Prep.codesT (V37 m ρ) c).trans ?_)
  rw [x_at, g_at, s_at]
  rfl

/-! ## The second region's -/

theorem hq_at : Main.Hq (V39 m ρ) c = Spec.hc (X m c) (G m c) (A m c) := by
  funext r l
  exact congrFun ((W39_of m ρ c main_v115_0 (by decide)).trans (codes m ρ c)) (ix2 r l)

theorem ht_at (l : Fin 2816) (r : Fin 6144) : Main.Ht (V39 m ρ) c l r = Spec.hc (X m c) (G m c) (A m c) r l :=
  congrFun ((W39_of m ρ c main_v115_1 (by decide)).trans (codesT m ρ c)) (ix2 l r)

theorem w_at : Main.W (V39 m ρ) c = W m c := by
  funext l j
  exact congrFun (W39_args m ρ c main_arg2 (by decide)) (ix2 l j)

theorem d_at : Main.D (V39 m ρ) c = D m c := by
  funext r j
  refine (congrFun ((W39_of m ρ c main_v112 (by decide)).trans (W38_of m ρ c main_v112 (by decide))) (ix2 r j)).trans ?_
  exact (Entry.line_v112 (W36 m ρ c) r j).trans (congrFun (W36_args m ρ c main_arg3 (by decide)) _)

theorem s0_at : Main.S (V39 m ρ) c 0 = Spec.inv (A m c) 1 991054117#32 :=
  (Entry.line_v122_0 (W38 m ρ c)).trans (Entry.v73_at38 m ρ c _)

theorem s1_at : Main.S (V39 m ρ) c 1 = Spec.inv (A m c) 2 932333861#32 :=
  (Entry.line_v122_1 (W38 m ρ c)).trans (Entry.v110_at38 m ρ c _)

theorem s2_at : Main.S (V39 m ρ) c 2 = Spec.s0 (A m c) * Spec.s1 (A m c) :=
  Entry.line_v122_2 (W38 m ρ c) _ _ (Entry.v28_at38 m ρ c) (Entry.v65_at38 m ρ c)

theorem s3_at : Main.S (V39 m ρ) c 3 = Spec.s0 (A m c) * Spec.s2 (A m c) :=
  Entry.line_v122_3 (W38 m ρ c) _ _ (Entry.v28_at38 m ρ c) (Entry.v102_at38 m ρ c)

theorem wcodes : W40 m ρ c (Proc.devRef .tc main_v123_2) = fun i => Spec.wc (W m c) (A m c) (i 0) (i 1) := by
  refine (W40_arr m ρ c 7).trans ((Main.wcodes (V39 m ρ) c).trans ?_)
  rw [w_at, s0_at]
  rfl

theorem dcodes : W40 m ρ c (Proc.devRef .tc main_v123_3) = fun i => Spec.dc (D m c) (A m c) (i 0) (i 1) := by
  refine (W40_arr m ρ c 8).trans ((Main.dcodes (V39 m ρ) c).trans ?_)
  rw [d_at, s1_at]
  rfl

theorem yarr : W40 m ρ c (Proc.devRef .tc main_v123_0) = fun i => Spec.y (X m c) (G m c) (W m c) (A m c) (i 0) (i 1) := by
  refine (W40_arr m ρ c 5).trans ((Main.yarr (V39 m ρ) c).trans ?_)
  rw [hq_at, w_at, s0_at, s2_at]
  rfl

theorem dwarr : W40 m ρ c (Proc.devRef .tc main_v123_1) = fun i => Spec.dw (X m c) (G m c) (D m c) (A m c) (i 0) (i 1) := by
  refine (W40_arr m ρ c 6).trans ((Main.darr (V39 m ρ) c).trans ?_)
  have e : Main.Ht (V39 m ρ) c = fun l r => Spec.hc (X m c) (G m c) (A m c) r l := funext fun l => funext fun r => ht_at m ρ c l r
  rw [e, d_at, s1_at, s3_at]
  rfl

/-! ## The third region's -/

theorem dq_at : Dx.Dq (V41 m ρ) c = Spec.dc (D m c) (A m c) := by
  funext r k
  exact congrFun ((W41_of m ρ c main_v123_3 (by decide)).trans (dcodes m ρ c)) (ix2 r k)

theorem wq_at : Dx.Wq (V41 m ρ) c = Spec.wc (W m c) (A m c) := by
  funext l k
  exact congrFun ((W41_of m ρ c main_v123_2 (by decide)).trans (wcodes m ρ c)) (ix2 l k)

theorem s5_at : Dx.S (V41 m ρ) c = Spec.s2 (A m c) * Spec.s1 (A m c) :=
  Entry.line_v125 (W40 m ρ c) _ _ (Entry.v65_at40 m ρ c) (Entry.v102_at40 m ρ c)

theorem dxarr : W42 m ρ c (Proc.devRef .tc main_v126) = fun i => Spec.dx (W m c) (D m c) (A m c) (i 0) (i 1) := by
  refine (W42_arr m ρ c 3).trans ((Dx.dx (V41 m ρ) c).trans ?_)
  rw [dq_at, wq_at, s5_at]
  rfl

/-! ## The results -/

theorem y : W43 m ρ c (Proc.devRef .tc main_v137) = fun i => Spec.y (X m c) (G m c) (W m c) (A m c) (i 1) (i 2) := by
  refine ext3 _ _ fun r l => ?_
  refine (Entry.line_v137 (W42 m ρ c) r l).trans ?_
  exact congrFun ((W42_of m ρ c main_v123_0 (by decide)).trans ((W41_of m ρ c main_v123_0 (by decide)).trans (yarr m ρ c))) (ix2 r l)

theorem dx : W43 m ρ c (Proc.devRef .tc main_v138) = fun i => Spec.dx (W m c) (D m c) (A m c) (i 1) (i 2) := by
  refine ext3 _ _ fun r l => ?_
  exact (Entry.line_v138 (W42 m ρ c) r l).trans (congrFun (dxarr m ρ c) (ix2 r l))

theorem dw : W43 m ρ c (Proc.devRef .tc main_v123_1) = fun i => Spec.dw (X m c) (G m c) (D m c) (A m c) (i 0) (i 1) :=
  (W43_of m ρ c main_v123_1 (by decide)).trans ((W42_of m ρ c main_v123_1 (by decide)).trans ((W41_of m ρ c main_v123_1 (by decide)).trans (dwarr m ρ c)))

theorem hcodes : W43 m ρ c (Proc.devRef .tc main_v139) = fun i => Spec.hc (X m c) (G m c) (A m c) (i 1) (i 2) := by
  refine ext3 _ _ fun r l => ?_
  refine (Entry.line_v139 (W42 m ρ c) r l).trans ?_
  exact congrFun ((W42_of m ρ c main_v115_0 (by decide)).trans ((W41_of m ρ c main_v115_0 (by decide)).trans ((W40_of m ρ c main_v115_0 (by decide)).trans
    ((W39_of m ρ c main_v115_0 (by decide)).trans (codes m ρ c))))) (ix2 r l)

theorem hscale : W43 m ρ c (Proc.devRef .tc main_v28) = fun _ => Spec.s0 (A m c) := funext (Entry.v28_at43 m ρ c)
theorem wscale : W43 m ρ c (Proc.devRef .tc main_v65) = fun _ => Spec.s1 (A m c) := funext (Entry.v65_at43 m ρ c)
theorem dscale : W43 m ρ c (Proc.devRef .tc main_v102) = fun _ => Spec.s2 (A m c) := funext (Entry.v102_at43 m ρ c)

theorem wcodes_end : W43 m ρ c (Proc.devRef .tc main_v123_2) = fun i => Spec.wc (W m c) (A m c) (i 0) (i 1) :=
  (W43_of m ρ c main_v123_2 (by decide)).trans ((W42_of m ρ c main_v123_2 (by decide)).trans ((W41_of m ρ c main_v123_2 (by decide)).trans (wcodes m ρ c)))

theorem dcodes_end : W43 m ρ c (Proc.devRef .tc main_v140) = fun i => Spec.dc (D m c) (A m c) (i 1) (i 2) := by
  refine ext3 _ _ fun r l => ?_
  refine (Entry.line_v140 (W42 m ρ c) r l).trans ?_
  exact congrFun ((W42_of m ρ c main_v123_3 (by decide)).trans ((W41_of m ρ c main_v123_3 (by decide)).trans (dcodes m ρ c))) (ix2 r l)

/-! ## The new history -/

theorem residues (g : Fin 6144 → Fin 2816 → EReal) (hg : ∀ i l, 0 ≤ g i l) (f : S8x2816.Idx → EReal)
    (h : ∀ (r : Fin 8) (l : Fin 2816) (z : EReal), f (ix2 r l) ≤ z ↔ 0 ≤ z ∧ ∀ i : Fin 6144, i.val % 8 = r.val → g i l ≤ z) (z : EReal) :
    (∀ i, f i ≤ z) ↔ ∀ i l, g i l ≤ z := by
  constructor
  · intro H i l
    exact ((h ⟨i.val % 8, by omega⟩ l z).1 (H _)).2 i rfl
  · intro H i
    rw [eq_ix2 i]
    exact (h _ _ z).2 ⟨(hg 0 0).trans (H 0 0), fun k _ => H k _⟩

theorem residues' {a : Nat} (k : Fin a) (g : Fin a → Fin 17664 → EReal) (hg : ∀ i l, 0 ≤ g i l) (f : S8x256.Idx → EReal)
    (h : ∀ (r : Fin 8) (q : Fin 256) (z : EReal), f (ix2 r q) ≤ z ↔ 0 ≤ z ∧ ∀ (i : Fin a) (j : Fin 17664), i.val % 8 = r.val → j.val % 256 = q.val → g i j ≤ z)
    (z : EReal) : (∀ i, f i ≤ z) ↔ ∀ i l, g i l ≤ z := by
  constructor
  · intro H i l
    exact ((h ⟨i.val % 8, by omega⟩ ⟨l.val % 256, by omega⟩ z).1 (H _)).2 i l rfl rfl
  · intro H i
    rw [eq_ix2 i]
    exact (h _ _ z).2 ⟨(hg k 0).trans (H k 0), fun k j _ _ => H k j⟩

theorem new0 : W43 m ρ c (Proc.devRef .tc main_v136) (ix2 0 0) = Peak.peak fun r l => Spec.mag (Spec.hval (X m c) (G m c) r l) := by
  have e : W42 m ρ c (Proc.devRef .tc main_v115_2) = (outsAt0 (V37 m ρ) c t0_11.val t0_11.isLt).2.2 :=
    (W42_of m ρ c main_v115_2 (by decide)).trans ((W41_of m ρ c main_v115_2 (by decide)).trans ((W40_of m ρ c main_v115_2 (by decide)).trans
      ((W39_of m ρ c main_v115_2 (by decide)).trans ((W38_arr m ρ c 5).trans (Prep.amax_eq (V37 m ρ) c)))))
  obtain ⟨x, hx, hle⟩ := Entry.line_v136_0 (W42 m ρ c) _ e
  refine hx.trans (Peak.eq_peak _ _ fun z => (hle z).trans ?_)
  refine residues _ (fun _ _ => Spec.mag_nonneg _) _ (fun r l z => ?_) z
  rw [Prep.amax_le, x_at, g_at]

theorem new1 : W43 m ρ c (Proc.devRef .tc main_v136) (ix2 1 0) = Peak.peak fun l j => Spec.mag (W m c l j) := by
  have e : W42 m ρ c (Proc.devRef .tc main_v123_4) = (outsAt1 (V39 m ρ) c Main.tlast.val Main.tlast.isLt).2.2.2.2.1 :=
    (W42_of m ρ c main_v123_4 (by decide)).trans ((W41_of m ρ c main_v123_4 (by decide)).trans ((W40_arr m ρ c 9).trans (Main.wmax_eq (V39 m ρ) c)))
  obtain ⟨x, hx, hle⟩ := Entry.line_v136_1 (W42 m ρ c) _ e
  refine hx.trans (Peak.eq_peak _ _ fun z => (hle z).trans ?_)
  refine residues' 0 _ (fun _ _ => Spec.mag_nonneg _) _ (fun r q z => ?_) z
  rw [Main.wmax_le]
  have w := w_at m ρ c
  refine and_congr_right fun _ => forall_congr' fun i => forall_congr' fun j => ?_
  rw [show V39 m ρ c main_arg2 (ix2 i j) = W m c i j from congrFun (congrFun w i) j]

theorem new2 : W43 m ρ c (Proc.devRef .tc main_v136) (ix2 2 0) = Peak.peak fun r j => Spec.mag (D m c r j) := by
  have e : W42 m ρ c (Proc.devRef .tc main_v123_5) = (outsAt1 (V39 m ρ) c Main.tlast.val Main.tlast.isLt).2.2.2.2.2 :=
    (W42_of m ρ c main_v123_5 (by decide)).trans ((W41_of m ρ c main_v123_5 (by decide)).trans ((W40_arr m ρ c 10).trans (Main.dmax_eq (V39 m ρ) c)))
  obtain ⟨x, hx, hle⟩ := Entry.line_v136_2 (W42 m ρ c) _ e
  refine hx.trans (Peak.eq_peak _ _ fun z => (hle z).trans ?_)
  refine residues' 0 _ (fun _ _ => Spec.mag_nonneg _) _ (fun r q z => ?_) z
  rw [Main.dmax_le]
  have w := d_at m ρ c
  refine and_congr_right fun _ => forall_congr' fun i => forall_congr' fun j => ?_
  rw [show V39 m ρ c main_v112 (ix2 i j) = D m c i j from congrFun (congrFun w i) j]

theorem history : W43 m ρ c (Proc.devRef .tc main_v136) = fun i => Spec.history (X m c) (G m c) (W m c) (D m c) (A m c) (i 0) (i 1) := by
  have h : ∀ (r : Fin 3) (x : Fin 16), W43 m ρ c (Proc.devRef .tc main_v136) (ix2 r x) = Spec.history (X m c) (G m c) (W m c) (D m c) (A m c) r x := by
    intro r x
    refine Fin.cases ?_ (fun j => ?_) x
    · fin_cases r
      · exact new0 m ρ c
      · exact new1 m ρ c
      · exact new2 m ρ c
    · exact (Entry.line_v136_tail (W42 m ρ c) r j).trans (congrFun (W42_args m ρ c main_arg4 (by decide)) _)
  exact ext2 _ _ h

end Cert.KernelIdeal.Value
-- ==== Proof.RefScale.lean ====
module

public import proofs.«01_k».proof.Proof.Gen.ReferenceIdeal.Frame
public import proofs.«01_k».proof.Proof.Results
public import Idealize.ShloMosaic.Lib.Pipeline.ValueKit
public import Idealize.ShloMosaic.Lib.Pointwise

@[expose] public section

set_option maxRecDepth 16384

noncomputable section

namespace Cert.ReferenceIdeal.Pay

open Idealize.ShloMosaic Idealize.ShloMosaic.TcCoe Idealize.SL.Sem
open Cert.ReferenceIdeal Cert.ReferenceIdeal.Gen

/-! ## The reference's scales -/

/-- A row's reciprocal width. -/
def width : Fin 3 → BitVec 32 := ![991054117#32, 991054117#32, 932333861#32]

theorem width_sel (r : Fin 3) : Scalar.select (IntOp.cmpi .eq (BitVec.ofNat 32 r.val) 2#32) (Ideal.ofBits .f32 932333861#32) (Ideal.ofBits .f32 991054117#32)
    = Ideal.ofBits .f32 (width r) := by
  fin_cases r <;> rfl

variable (h : Vec Ideal S3x16 .f32)

abbrev row (r : Fin 3) : Fin 16 → EReal := fun x => h (ix2 r x)

theorem expo_at (r : Fin 3) : k0_pay2 h (ix2 r 0) = Scale.expo (Scale.top (row h r)) (Scale.arg (row h r) (width r)) := by
  rw [← Scale.ref_expo (Scale.top (row h r)) (Scale.arg (row h r) (width r)) _ Scale.exp2_step]
  unfold Scale.arg Scale.top row
  rw [← width_sel]
  pointwise [k0_pay2]

theorem scale_at (r : Fin 3) : k0_pay4 h (ix2 r 0) = Scale.scale (Scale.top (row h r)) (Scale.arg (row h r) (width r)) := by
  rw [Scale.scale, ← expo_at]
  pointwise [k0_pay4, k0_pay3]

theorem inverse_at (r : Fin 3) : k0_pay6 (k0_pay3 h) (k0_pay5 h) (Scalar.ofBits .f32 0x00000000#32) (ix2 r 0)
    = Scale.inverse (Scale.top (row h r)) (Scale.arg (row h r) (width r)) := by
  rw [Scale.inverse, ← expo_at]
  pointwise [k0_pay6, k0_pay5, k0_pay3]

/-! ## The reference's payloads, element by element -/

variable (e : FVec Ideal S3x1 .f32) (b : IVec S3x1 1) (z : Ideal .f32)
  (x : Vec Ideal S6144x2816 .bf16) (g : Vec Ideal S1x2816 .bf16) (w : Vec Ideal S2816x17664 .bf16) (d : Vec Ideal S6144x17664 .bf16)

theorem pay7_at (s : FVec Ideal S3x1 .f32) : k0_pay7 s (ix2 0 0) = s (ix2 0 0) := by
  pointwise [k0_pay7]

theorem pay8_at (s : FVec Ideal S3x1 .f32) : k0_pay8 s (ix2 0 0) = s (ix2 1 0) := by
  pointwise [k0_pay8]

theorem pay9_at (s : FVec Ideal S3x1 .f32) : k0_pay9 s (ix2 0 0) = s (ix2 2 0) := by
  pointwise [k0_pay9]

theorem pay10_at : k0_pay10 e b z (ix2 0 0) = k0_pay6 e b z (ix2 2 0) := by
  pointwise [k0_pay10]

theorem pay11_at (r : Fin 6144) (l : Fin 2816) : k0_pay11 x g (ix2 r l) = Spec.hval (fun r l => x (ix2 r l)) (fun l => g (ix2 0 l)) r l := by
  pointwise [k0_pay11, Spec.hval]

theorem pay14_at (r : Fin 6144) (l : Fin 2816) : k0_pay14 e b z x g (ix2 r l)
    = Spec.q4 (Spec.hval (fun r l => x (ix2 r l)) (fun l => g (ix2 0 l)) r l) (k0_pay6 e b z (ix2 0 0)) := by
  rw [← pay11_at]
  pointwise [k0_pay14, Spec.q4]

theorem pay15_at (l : Fin 2816) (j : Fin 17664) : k0_pay16 (k0_pay15 e b z w) (Scalar.ofBits .f32 0xC3E00000#32) (ix2 l j)
    = Spec.q4 (w (ix2 l j)) (k0_pay6 e b z (ix2 1 0)) := by
  pointwise [k0_pay16, k0_pay15, k0_pay12, Spec.q4]

theorem pay17_at (s : FVec Ideal S1x1 .f32) (r : Fin 6144) (j : Fin 17664) : k0_pay17 s (k0_pay13 d) (ix2 r j)
    = Spec.q5 (d (ix2 r j)) (s (ix2 0 0)) := by
  pointwise [k0_pay17, k0_pay13, Spec.q5]

theorem pay18_at (s t : FVec Ideal S1x1 .f32) (q : FVec Ideal S6144x2816 .fp8e4m3) (u : FVec Ideal S2816x17664 .f32) (r : Fin 6144) (j : Fin 17664) :
    k0_pay18 s t q u z (ix2 r j) = (∑ k, q (ix2 r k) * k0_pay16 u z (ix2 k j)) * (s (ix2 0 0) * t (ix2 0 0)) := by
  pointwise [k0_pay18]

theorem pay19_at (s t v : FVec Ideal S1x1 .f32) (p : FVec Ideal S6144x17664 .f32) (u : FVec Ideal S2816x17664 .f32) (r : Fin 6144) (l : Fin 2816) :
    k0_pay19 s t v p u z (ix2 r l) = (∑ k, k0_pay17 v p (ix2 r k) * k0_pay16 u z (ix2 l k)) * (t (ix2 0 0) * s (ix2 0 0)) := by
  pointwise [k0_pay19]

theorem pay20_at (s t v : FVec Ideal S1x1 .f32) (p : FVec Ideal S6144x17664 .f32) (q : FVec Ideal S6144x2816 .fp8e4m3) (l : Fin 2816) (j : Fin 17664) :
    k0_pay20 s t v p q (ix2 l j) = (∑ k, q (ix2 k l) * k0_pay17 v p (ix2 k j)) * (s (ix2 0 0) * t (ix2 0 0)) := by
  pointwise [k0_pay20]

end Cert.ReferenceIdeal.Pay
-- ==== Proof.RefOut.lean ====
module

public import proofs.«01_k».proof.Proof.RefScale
public import proofs.«01_k».proof.Proof.Results
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Out

open Idealize.ShloMosaic Idealize.ShloMosaic.TcCoe Idealize.SL.Sem
open Cert.Spec (ext2 ext3)
open Cert.ReferenceIdeal Cert.ReferenceIdeal.Gen Cert.ReferenceIdeal.Pay

variable (x0 : Vec Ideal S6144x2816 .bf16) (x1 : Vec Ideal S1x2816 .bf16) (x2 : Vec Ideal S2816x17664 .bf16)
  (x3 : Vec Ideal S6144x17664 .bf16) (x4 : Vec Ideal S3x16 .f32)

/-! ## The blocks as matrices -/

abbrev X (r : Fin 6144) (l : Fin 2816) : EReal := x0 (ix2 r l)
abbrev G (l : Fin 2816) : EReal := x1 (ix2 0 l)
abbrev W (l : Fin 2816) (j : Fin 17664) : EReal := x2 (ix2 l j)
abbrev D (r : Fin 6144) (j : Fin 17664) : EReal := x3 (ix2 r j)
abbrev A (r : Fin 3) (x : Fin 16) : EReal := x4 (ix2 r x)

/-! ## What the reference computes once, element by element -/

theorem ld0 : View.ld x0 r0_1 = x0 := by
  frame_out
theorem ld1 : View.ld x1 r0_2 = x1 := by
  frame_out
theorem ld2 : View.ld x2 r0_3 = x2 := by
  frame_out
theorem ld3 : View.ld x3 r0_4 = x3 := by
  frame_out
theorem ld4 : View.ld x4 r0_0 = x4 := by
  frame_out

theorem s0_at : k0_pay24 x0 x1 x2 x3 x4 (ix2 0 0) = Spec.s0 (A x4) := by
  unfold k0_pay24 k0_pay22
  rw [ld4, pay7_at, scale_at]
  rfl

theorem s1_at : k0_pay25 x0 x1 x2 x3 x4 (ix2 0 0) = Spec.s1 (A x4) := by
  unfold k0_pay25 k0_pay22
  rw [ld4, pay8_at, scale_at]
  rfl

theorem s2_at : k0_pay26 x0 x1 x2 x3 x4 (ix2 0 0) = Spec.s2 (A x4) := by
  unfold k0_pay26 k0_pay22
  rw [ld4, pay9_at, scale_at]
  rfl

theorem i2_at : k0_pay27 x0 x1 x2 x3 x4 (ix2 0 0) = Spec.inv (A x4) 2 932333861#32 := by
  unfold k0_pay27 k0_pay21 k0_pay23
  rw [ld4, pay10_at, inverse_at]
  rfl

theorem hc_at (r : Fin 6144) (l : Fin 2816) : k0_pay29 x0 x1 x2 x3 x4 (ix2 r l) = Spec.hc (X x0) (G x1) (A x4) r l := by
  unfold k0_pay29 k0_pay21 k0_pay23
  rw [ld4, ld0, ld1, pay14_at, inverse_at]
  rfl

theorem wc_at (l : Fin 2816) (j : Fin 17664) :
    k0_pay16 (k0_pay30 x0 x1 x2 x3 x4) (FloatOps.ofBits .f32 3286237184#32) (ix2 l j) = Spec.wc (W x2) (A x4) l j := by
  unfold k0_pay30 k0_pay21 k0_pay23
  rw [ld4, ld2]
  refine (pay15_at _ _ _ _ l j).trans ?_
  rw [inverse_at]
  rfl

theorem dc_at (r : Fin 6144) (j : Fin 17664) :
    k0_pay17 (k0_pay27 x0 x1 x2 x3 x4) (k0_pay28 x0 x1 x2 x3 x4) (ix2 r j) = Spec.dc (D x3) (A x4) r j := by
  unfold k0_pay28
  rw [ld3, pay17_at, i2_at]
  rfl

/-! ## The region's outputs -/

theorem one (f : S1x1.Idx → EReal) (v : EReal) (h : f (ix2 0 0) = v) : f = fun _ => v := by
  refine ext2 _ _ fun r l => ?_
  rw [Subsingleton.elim r 0, Subsingleton.elim l 0]
  exact h

theorem y : out0_5 x0 x1 x2 x3 x4 = fun i => Spec.y (X x0) (G x1) (W x2) (A x4) (i 0) (i 1) := by
  unfold out0_5
  frame_out
  refine ext2 _ _ fun r j => ?_
  rw [pay18_at, s0_at, s1_at]
  simp only [hc_at, wc_at]
  rfl

theorem dx : out0_6 x0 x1 x2 x3 x4 = fun i => Spec.dx (W x2) (D x3) (A x4) (i 0) (i 1) := by
  unfold out0_6
  frame_out
  refine ext2 _ _ fun r l => ?_
  rw [pay19_at, s1_at, s2_at]
  simp only [dc_at, wc_at]
  rfl

theorem dw : out0_7 x0 x1 x2 x3 x4 = fun i => Spec.dw (X x0) (G x1) (D x3) (A x4) (i 0) (i 1) := by
  unfold out0_7
  frame_out
  refine ext2 _ _ fun l j => ?_
  rw [pay20_at, s0_at, s2_at]
  simp only [hc_at, dc_at]
  rfl

theorem hcodes : out0_8 x0 x1 x2 x3 x4 = fun i => Spec.hc (X x0) (G x1) (A x4) (i 0) (i 1) := by
  unfold out0_8
  frame_out
  exact ext2 _ _ fun r l => hc_at x0 x1 x2 x3 x4 r l

theorem hscale : out0_9 x0 x1 x2 x3 x4 = fun _ => Spec.s0 (A x4) := by
  unfold out0_9
  frame_out
  exact one _ _ (s0_at x0 x1 x2 x3 x4)

theorem wcodes : out0_10 x0 x1 x2 x3 x4 = fun i => Spec.wc (W x2) (A x4) (i 0) (i 1) := by
  unfold out0_10
  frame_out
  exact ext2 _ _ fun r l => wc_at x0 x1 x2 x3 x4 r l

theorem wscale : out0_11 x0 x1 x2 x3 x4 = fun _ => Spec.s1 (A x4) := by
  unfold out0_11
  frame_out
  exact one _ _ (s1_at x0 x1 x2 x3 x4)

theorem dcodes : out0_12 x0 x1 x2 x3 x4 = fun i => Spec.dc (D x3) (A x4) (i 0) (i 1) := by
  unfold out0_12
  frame_out
  exact ext2 _ _ fun r l => dc_at x0 x1 x2 x3 x4 r l

theorem dscale : out0_13 x0 x1 x2 x3 x4 = fun _ => Spec.s2 (A x4) := by
  unfold out0_13
  frame_out
  exact one _ _ (s2_at x0 x1 x2 x3 x4)

end Cert.ReferenceIdeal.Out
-- ==== Proof.RefHist.lean ====
module

public import proofs.«01_k».proof.Proof.RefOut

@[expose] public section

set_option maxRecDepth 16384

noncomputable section

namespace Cert.ReferenceIdeal.Hist

open Idealize.ShloMosaic Idealize.ShloMosaic.TcCoe Idealize.SL.Sem
open Cert.Spec (ext2 ext3)
open Cert.ReferenceIdeal Cert.ReferenceIdeal.Gen Cert.ReferenceIdeal.Pay

/-- The greatest magnitude of a matrix, taken over one matrix of magnitudes. -/
theorem greatest {a b : Nat} (f : Fin a → Fin b → EReal) (x : FVec Ideal ⟨3, ![1, a, b]⟩ .f32) (hx : ∀ r l, x (ix3 0 r l) = Spec.mag (f r l))
    (h : (⟨3, ![1, a, b]⟩ : Shape).Reduces [1, 2] S1) (hφ) (ha) (j : S1.Idx) :
    (multiReduction .maximumf [1, 2] S1 x 0xFF800000#32 h hφ ha j : EReal) = Peak.peak fun r l => Spec.mag (f r l) := by
  refine Peak.eq_peak _ _ fun z => (Peak.multi_le _ h hφ ha j (fun i => ?_) z).trans ⟨fun H r l => ?_, fun H i => ?_⟩
  · rw [eq_ix1 i, eq_ix1 j]
    exact congrArg ix1 (Subsingleton.elim (α := Fin 1) _ _)
  · exact le_of_eq_of_le (hx r l).symm (H (ix3 0 r l))
  · rw [eq_ix3 i, show i 0 = (0 : Fin 1) from Subsingleton.elim (α := Fin 1) _ _]
    exact le_of_eq_of_le (hx _ _) (H (i 1) (i 2))

variable (h : Vec Ideal S3x16 .f32) (x : FVec Ideal S6144x2816 .f32) (w : FVec Ideal S2816x17664 .f32) (d : FVec Ideal S6144x17664 .f32)

/-- The three greatest magnitudes, as the reference takes them. -/
def px (j : S1.Idx) : EReal := (multiReduction .maximumf [1, 2] S1 (shapeCast S1x6144x2816 (absf x) shapeCasts_S6144x2816_S1x6144x2816) 0xFF800000#32 reduces_S1x6144x2816_S1 (.inl rfl) rfl : FVec Ideal S1 .f32) j
def pw (j : S1.Idx) : EReal := (multiReduction .maximumf [1, 2] S1 (shapeCast S1x2816x17664 (absf w) shapeCasts_S2816x17664_S1x2816x17664) 0xFF800000#32 reduces_S1x2816x17664_S1 (.inl rfl) rfl : FVec Ideal S1 .f32) j
def pd (j : S1.Idx) : EReal := (multiReduction .maximumf [1, 2] S1 (shapeCast S1x6144x17664 (absf d) shapeCasts_S6144x17664_S1x6144x17664) 0xFF800000#32 reduces_S1x6144x17664_S1 (.inl rfl) rfl : FVec Ideal S1 .f32) j

theorem px_eq (j : S1.Idx) : px x j = Peak.peak fun r l => Spec.mag (x (ix2 r l)) := by
  refine greatest (fun r l => x (ix2 r l)) _ (fun r l => ?_) _ _ _ j
  pointwise [Spec.mag]

theorem pw_eq (j : S1.Idx) : pw w j = Peak.peak fun r l => Spec.mag (w (ix2 r l)) := by
  refine greatest (fun r l => w (ix2 r l)) _ (fun r l => ?_) _ _ _ j
  pointwise [Spec.mag]

theorem pd_eq (j : S1.Idx) : pd d j = Peak.peak fun r l => Spec.mag (d (ix2 r l)) := by
  refine greatest (fun r l => d (ix2 r l)) _ (fun r l => ?_) _ _ _ j
  pointwise [Spec.mag]

/-- The new history from the three maxima. -/
def joined (p q s : FVec Ideal S1 .f32) : FVec Ideal S3x16 .f32 :=
  concatenate S3x16 1 [⟨S3x1, concatenate S3x1 0 [⟨S1x1, broadcast S1x1 (extractAt ![0, 0, 0] (shapeCast S1x1x1 p shapeCasts_S1_S1x1x1) inpos_S1x1x1_p0_0_0)⟩,
      ⟨S1x1, broadcast S1x1 (extractAt ![0, 0, 0] (shapeCast S1x1x1 q shapeCasts_S1_S1x1x1) inpos_S1x1x1_p0_0_0)⟩,
      ⟨S1x1, broadcast S1x1 (extractAt ![0, 0, 0] (shapeCast S1x1x1 s shapeCasts_S1_S1x1x1) inpos_S1x1x1_p0_0_0)⟩] concatenates_S1x1_S1x1_S1x1_S3x1_d0⟩,
    ⟨S3x15, extractStridedSlice S3x15 ![0, 0] h slices_S3x16_o0_0_S3x15⟩] concatenates_S3x1_S3x15_S3x16_d1

theorem pay1_eq : k0_pay1 h x w d = joined h (px x) (pw w) (pd d) := rfl

variable (p q s : FVec Ideal S1 .f32)

theorem joined0 : joined h p q s (ix2 0 0) = p (ix1 0) := by
  pointwise [joined]

theorem joined1 : joined h p q s (ix2 1 0) = q (ix1 0) := by
  pointwise [joined]

theorem joined2 : joined h p q s (ix2 2 0) = s (ix1 0) := by
  pointwise [joined]

theorem joined_old (r : Fin 3) (j : Fin 15) : joined h p q s (ix2 r j.succ) = h (ix2 r j.castSucc) := by
  pointwise [joined]
  rw [dif_neg (by simp)]
  rfl

variable (x0 : Vec Ideal S6144x2816 .bf16) (x1 : Vec Ideal S1x2816 .bf16) (x2 : Vec Ideal S2816x17664 .bf16)
  (x3 : Vec Ideal S6144x17664 .bf16) (x4 : Vec Ideal S3x16 .f32)

theorem pay12_at (l : Fin 2816) (j : Fin 17664) : k0_pay12 x2 (ix2 l j) = x2 (ix2 l j) := by
  pointwise [k0_pay12]

theorem pay13_at (r : Fin 6144) (j : Fin 17664) : k0_pay13 x3 (ix2 r j) = x3 (ix2 r j) := by
  pointwise [k0_pay13]

theorem history : out0_14 x0 x1 x2 x3 x4 = fun i => Spec.history (Out.X x0) (Out.G x1) (Out.W x2) (Out.D x3) (Out.A x4) (i 0) (i 1) := by
  unfold out0_14 k0_pay28
  rw [Out.ld0, Out.ld1, Out.ld2, Out.ld3, Out.ld4, pay1_eq]
  frame_out
  have e : ∀ (r : Fin 3) (x : Fin 16), joined x4 (px (k0_pay11 x0 x1)) (pw (k0_pay12 x2)) (pd (k0_pay13 x3)) (ix2 r x)
      = Spec.history (Out.X x0) (Out.G x1) (Out.W x2) (Out.D x3) (Out.A x4) r x := by
    intro r x
    refine Fin.cases ?_ (fun j => ?_) x
    · fin_cases r
      · refine (joined0 _ _ _ _).trans ((px_eq _ _).trans ?_)
        simp only [pay11_at]
        rfl
      · refine (joined1 _ _ _ _).trans ((pw_eq _ _).trans ?_)
        simp only [pay12_at]
        rfl
      · refine (joined2 _ _ _ _).trans ((pd_eq _ _).trans ?_)
        simp only [pay13_at]
        rfl
    · exact joined_old _ _ _ _ r j
  exact ext2 _ _ e

end Cert.ReferenceIdeal.Hist
-- ==== Proof.RefValue.lean ====
module

public import proofs.«01_k».proof.Proof.RefHist
public import Idealize.ShloMosaic.Lib.StableHlo.ReadAt

@[expose] public section

set_option maxRecDepth 16384

noncomputable section

namespace Cert.ReferenceIdeal.Final

open Idealize.ShloMosaic Idealize.ShloMosaic.TcCoe Idealize.SL.Sem
open Idealize.ShloMosaic.StableHlo
open Cert.Spec (ext2 ext3)
open Cert.ReferenceIdeal Cert.ReferenceIdeal.Gen Cert.ReferenceIdeal.Value

variable (m : (ℓ : Loc nD τ sig) → Buf (Elt Ideal) ℓ) (c : Dev nD)

/-! ## The arguments -/

abbrev X (r : Fin 6144) (l : Fin 2816) : EReal := m ((c : Thread nD τ).loc main_arg0) (ix3 0 r l)
abbrev G (l : Fin 2816) : EReal := m ((c : Thread nD τ).loc main_arg1) (ix1 l)
abbrev W (l : Fin 2816) (j : Fin 17664) : EReal := m ((c : Thread nD τ).loc main_arg2) (ix2 l j)
abbrev D (r : Fin 6144) (j : Fin 17664) : EReal := m ((c : Thread nD τ).loc main_arg3) (ix3 0 r j)
abbrev A (r : Fin 3) (x : Fin 16) : EReal := m ((c : Thread nD τ).loc main_arg4) (ix2 r x)

/-! ## The blocks at the one point -/

theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

theorem blk0 : iblk m c 0 t0_0 = V m c main_v0 := by
  blk_ext! [iblk, idx t0_0]
theorem blk1 : iblk m c 1 t0_0 = V m c main_v1 := by
  blk_ext! [iblk, idx t0_0]
theorem blk2 : iblk m c 2 t0_0 = V m c main_arg2 := by
  blk_ext! [iblk, idx t0_0]
theorem blk3 : iblk m c 3 t0_0 = V m c main_v2 := by
  blk_ext! [iblk, idx t0_0]
theorem blk4 : iblk m c 4 t0_0 = V m c main_arg4 := by
  blk_ext! [iblk, idx t0_0]

theorem line_v0 (V : Valuation τ sig (Elt Ideal)) (r : Fin 6144) (l : Fin 2816) :
    after (hostOps0 (F := Ideal)) V (Proc.devRef .tc main_v0) (ix2 r l) = V (Proc.devRef .tc main_arg0) (ix3 0 r l) := by
  after_reads_at

theorem line_v1 (V : Valuation τ sig (Elt Ideal)) (l : Fin 2816) :
    after (hostOps0 (F := Ideal)) V (Proc.devRef .tc main_v1) (ix2 0 l) = V (Proc.devRef .tc main_arg1) (ix1 l) := by
  after_reads_at

theorem line_v2 (V : Valuation τ sig (Elt Ideal)) (r : Fin 6144) (l : Fin 17664) :
    after (hostOps0 (F := Ideal)) V (Proc.devRef .tc main_v2) (ix2 r l) = V (Proc.devRef .tc main_arg3) (ix3 0 r l) := by
  after_reads_at

theorem x_at : Out.X (iblk m c 0 t0_0) = X m c := by
  funext r l
  exact (congrFun (blk0 m c) (ix2 r l)).trans (line_v0 _ r l)

theorem g_at : Out.G (iblk m c 1 t0_0) = G m c := by
  funext l
  exact (congrFun (blk1 m c) (ix2 0 l)).trans (line_v1 _ l)

theorem w_at : Out.W (iblk m c 2 t0_0) = W m c := by
  funext l j
  exact (congrFun (blk2 m c) (ix2 l j)).trans (congrFun (V_main_arg2 m c) (ix2 l j))

theorem d_at : Out.D (iblk m c 3 t0_0) = D m c := by
  funext r l
  exact (congrFun (blk3 m c) (ix2 r l)).trans (line_v2 _ r l)

theorem a_at : Out.A (iblk m c 4 t0_0) = A m c := by
  funext r x
  exact (congrFun (blk4 m c) (ix2 r x)).trans (congrFun (V_main_arg4 m c) (ix2 r x))

/-! ## What the region leaves -/

theorem y : reg_main_v3_0 m c = fun i => Spec.y (X m c) (G m c) (W m c) (A m c) (i 0) (i 1) := by
  rw [← x_at, ← g_at, ← w_at, ← a_at]
  refine (dats m 0 c).arrAt_eq_of_after_last 5 t0_0 (by decide +kernel) _ fun j => ?_
  rw [after0_5, Out.y]
  blk_ext! [idx t0_0]

theorem dx : reg_main_v3_1 m c = fun i => Spec.dx (W m c) (D m c) (A m c) (i 0) (i 1) := by
  rw [← w_at, ← d_at, ← a_at]
  refine (dats m 0 c).arrAt_eq_of_after_last 6 t0_0 (by decide +kernel) _ fun j => ?_
  rw [after0_6, Out.dx]
  blk_ext! [idx t0_0]

theorem dw : reg_main_v3_2 m c = fun i => Spec.dw (X m c) (G m c) (D m c) (A m c) (i 0) (i 1) := by
  rw [← x_at, ← g_at, ← d_at, ← a_at]
  refine (dats m 0 c).arrAt_eq_of_after_last 7 t0_0 (by decide +kernel) _ fun j => ?_
  rw [after0_7, Out.dw]
  blk_ext! [idx t0_0]

theorem hcodes : reg_main_v3_3 m c = fun i => Spec.hc (X m c) (G m c) (A m c) (i 0) (i 1) := by
  rw [← x_at, ← g_at, ← a_at]
  refine (dats m 0 c).arrAt_eq_of_after_last 8 t0_0 (by decide +kernel) _ fun j => ?_
  rw [after0_8, Out.hcodes]
  blk_ext! [idx t0_0]

theorem hscale : reg_main_v3_4 m c = fun _ => Spec.s0 (A m c) := by
  rw [← a_at]
  refine (dats m 0 c).arrAt_eq_of_after_last 9 t0_0 (by decide +kernel) _ fun j => ?_
  rw [after0_9, Out.hscale]
  blk_ext! [idx t0_0]

theorem wcodes : reg_main_v3_5 m c = fun i => Spec.wc (W m c) (A m c) (i 0) (i 1) := by
  rw [← w_at, ← a_at]
  refine (dats m 0 c).arrAt_eq_of_after_last 10 t0_0 (by decide +kernel) _ fun j => ?_
  rw [after0_10, Out.wcodes]
  blk_ext! [idx t0_0]

theorem wscale : reg_main_v3_6 m c = fun _ => Spec.s1 (A m c) := by
  rw [← a_at]
  refine (dats m 0 c).arrAt_eq_of_after_last 11 t0_0 (by decide +kernel) _ fun j => ?_
  rw [after0_11, Out.wscale]
  blk_ext! [idx t0_0]

theorem dcodes : reg_main_v3_7 m c = fun i => Spec.dc (D m c) (A m c) (i 0) (i 1) := by
  rw [← d_at, ← a_at]
  refine (dats m 0 c).arrAt_eq_of_after_last 12 t0_0 (by decide +kernel) _ fun j => ?_
  rw [after0_12, Out.dcodes]
  blk_ext! [idx t0_0]

theorem dscale : reg_main_v3_8 m c = fun _ => Spec.s2 (A m c) := by
  rw [← a_at]
  refine (dats m 0 c).arrAt_eq_of_after_last 13 t0_0 (by decide +kernel) _ fun j => ?_
  rw [after0_13, Out.dscale]
  blk_ext! [idx t0_0]

theorem history : reg_main_v3_9 m c = fun i => Spec.history (X m c) (G m c) (W m c) (D m c) (A m c) (i 0) (i 1) := by
  rw [← x_at, ← g_at, ← w_at, ← d_at, ← a_at]
  refine (dats m 0 c).arrAt_eq_of_after_last 14 t0_0 (by decide +kernel) _ fun j => ?_
  rw [after0_14, Hist.history]
  blk_ext! [idx t0_0]

end Cert.ReferenceIdeal.Final
-- ==== Proof.Algebraic.lean ====
module

public import proofs.«01_k».proof.Defs
public import proofs.«01_k».proof.Proof.KRun
public import proofs.«01_k».proof.Proof.KValue
public import proofs.«01_k».proof.Proof.RefValue

@[expose] public section

set_option maxRecDepth 16384

noncomputable section

namespace Cert.Proof.Algebraic

open Idealize.ShloMosaic Idealize.ShloMosaic.TcCoe Idealize.SL.Sem
open Cert.Spec (ext2 ext3)

/-! ## Matrices and scalars in the results' shapes -/

theorem lift_y (f : Fin 6144 → Fin 17664 → EReal) (h : Cert.ReferenceIdeal.S6144x17664.ShapeCasts Cert.ReferenceIdeal.S1x6144x17664) :
    shapeCast Cert.ReferenceIdeal.S1x6144x17664 (fun i : Cert.ReferenceIdeal.S6144x17664.Idx => f (i 0) (i 1)) h
      = fun i => f (i 1) (i 2) := by
  refine ext3 _ _ fun r l => ?_
  pointwise

theorem lift_x (f : Fin 6144 → Fin 2816 → EReal) (h : Cert.ReferenceIdeal.S6144x2816.ShapeCasts Cert.ReferenceIdeal.S1x6144x2816) :
    shapeCast Cert.ReferenceIdeal.S1x6144x2816 (fun i : Cert.ReferenceIdeal.S6144x2816.Idx => f (i 0) (i 1)) h
      = fun i => f (i 1) (i 2) := by
  refine ext3 _ _ fun r l => ?_
  pointwise

theorem lift_s (v : EReal) (h : Cert.ReferenceIdeal.S1x1.ShapeCasts Cert.ReferenceIdeal.S_) : shapeCast Cert.ReferenceIdeal.S_ (fun _ : Cert.ReferenceIdeal.S1x1.Idx => v) h = fun _ => v := rfl

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (g' : Dev Cert.ReferenceIdeal.nD → PrngReg) (c : Dev Cert.KernelIdeal.nD)

/-! ## The two programs' arguments are the same matrices -/

theorem same_X (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Final.X m' c = Cert.KernelIdeal.Value.X m c := by
  funext r l
  exact congrFun h _

theorem same_G (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Final.G m' c = Cert.KernelIdeal.Value.G m c := by
  funext l
  exact congrFun h _

theorem same_W (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Final.W m' c = Cert.KernelIdeal.Value.W m c := by
  funext l j
  exact congrFun h _

theorem same_D (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Final.D m' c = Cert.KernelIdeal.Value.D m c := by
  funext r j
  exact congrFun h _

theorem same_A (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Final.A m' c = Cert.KernelIdeal.Value.A m c := by
  funext r x
  exact congrFun h _

/-- The kernel's program ends with each result at the value its run leaves, and with the arguments unchanged. -/
theorem kernel_run :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v137) = Cert.KernelIdeal.Gen.W43 m g c (Proc.devRef .tc Cert.KernelIdeal.main_v137)
      ∧ r.2.mem ((c.tc : Thread Cert.KernelIdeal.nD Cert.KernelIdeal.τ).loc Cert.KernelIdeal.main_v138) = Cert.KernelIdeal.Gen.W43 m g c (Proc.devRef .tc Cert.KernelIdeal.main_v138)
      ∧ r.2.mem ((c.tc : Thread Cert.KernelIdeal.nD Cert.KernelIdeal.τ).loc Cert.KernelIdeal.main_v123_1) = Cert.KernelIdeal.Gen.W43 m g c (Proc.devRef .tc Cert.KernelIdeal.main_v123_1)
      ∧ r.2.mem ((c.tc : Thread Cert.KernelIdeal.nD Cert.KernelIdeal.τ).loc Cert.KernelIdeal.main_v139) = Cert.KernelIdeal.Gen.W43 m g c (Proc.devRef .tc Cert.KernelIdeal.main_v139)
      ∧ r.2.mem ((c.tc : Thread Cert.KernelIdeal.nD Cert.KernelIdeal.τ).loc Cert.KernelIdeal.main_v28) = Cert.KernelIdeal.Gen.W43 m g c (Proc.devRef .tc Cert.KernelIdeal.main_v28)
      ∧ r.2.mem ((c.tc : Thread Cert.KernelIdeal.nD Cert.KernelIdeal.τ).loc Cert.KernelIdeal.main_v123_2) = Cert.KernelIdeal.Gen.W43 m g c (Proc.devRef .tc Cert.KernelIdeal.main_v123_2)
      ∧ r.2.mem ((c.tc : Thread Cert.KernelIdeal.nD Cert.KernelIdeal.τ).loc Cert.KernelIdeal.main_v65) = Cert.KernelIdeal.Gen.W43 m g c (Proc.devRef .tc Cert.KernelIdeal.main_v65)
      ∧ r.2.mem ((c.tc : Thread Cert.KernelIdeal.nD Cert.KernelIdeal.τ).loc Cert.KernelIdeal.main_v140) = Cert.KernelIdeal.Gen.W43 m g c (Proc.devRef .tc Cert.KernelIdeal.main_v140)
      ∧ r.2.mem ((c.tc : Thread Cert.KernelIdeal.nD Cert.KernelIdeal.τ).loc Cert.KernelIdeal.main_v102) = Cert.KernelIdeal.Gen.W43 m g c (Proc.devRef .tc Cert.KernelIdeal.main_v102)
      ∧ r.2.mem ((c.tc : Thread Cert.KernelIdeal.nD Cert.KernelIdeal.τ).loc Cert.KernelIdeal.main_v136) = Cert.KernelIdeal.Gen.W43 m g c (Proc.devRef .tc Cert.KernelIdeal.main_v136)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono (fun _ h c => ⟨h c _ (Cert.KernelIdeal.Gen.mem_uc Cert.KernelIdeal.main_v137 (by decide)),
    h c _ (Cert.KernelIdeal.Gen.mem_uc Cert.KernelIdeal.main_v138 (by decide)),
    h c _ (Cert.KernelIdeal.Gen.mem_uc Cert.KernelIdeal.main_v123_1 (by decide)),
    h c _ (Cert.KernelIdeal.Gen.mem_uc Cert.KernelIdeal.main_v139 (by decide)),
    h c _ (Cert.KernelIdeal.Gen.mem_uc Cert.KernelIdeal.main_v28 (by decide)),
    h c _ (Cert.KernelIdeal.Gen.mem_uc Cert.KernelIdeal.main_v123_2 (by decide)),
    h c _ (Cert.KernelIdeal.Gen.mem_uc Cert.KernelIdeal.main_v65 (by decide)),
    h c _ (Cert.KernelIdeal.Gen.mem_uc Cert.KernelIdeal.main_v140 (by decide)),
    h c _ (Cert.KernelIdeal.Gen.mem_uc Cert.KernelIdeal.main_v102 (by decide)),
    h c _ (Cert.KernelIdeal.Gen.mem_uc Cert.KernelIdeal.main_v136 (by decide)),
    (h c _ (Cert.KernelIdeal.Gen.mem_uc Cert.KernelIdeal.main_arg0 (by decide))).trans (Cert.KernelIdeal.Gen.W43_main_arg0 m g c),
    (h c _ (Cert.KernelIdeal.Gen.mem_uc Cert.KernelIdeal.main_arg1 (by decide))).trans (Cert.KernelIdeal.Gen.W43_main_arg1 m g c),
    (h c _ (Cert.KernelIdeal.Gen.mem_uc Cert.KernelIdeal.main_arg2 (by decide))).trans (Cert.KernelIdeal.Gen.W43_main_arg2 m g c),
    (h c _ (Cert.KernelIdeal.Gen.mem_uc Cert.KernelIdeal.main_arg3 (by decide))).trans (Cert.KernelIdeal.Gen.W43_main_arg3 m g c),
    (h c _ (Cert.KernelIdeal.Gen.mem_uc Cert.KernelIdeal.main_arg4 (by decide))).trans (Cert.KernelIdeal.Gen.W43_main_arg4 m g c)⟩) (Cert.KernelIdeal.Final.run m g)

theorem algebraic : Cert.algebraic_KernelIdeal_ReferenceIdeal := by
  intro m g m' g' _ hargs
  refine ⟨fun c => Cert.KernelIdeal.Gen.W43 m g c (Proc.devRef .tc Cert.KernelIdeal.main_v137),
    fun c => Cert.KernelIdeal.Gen.W43 m g c (Proc.devRef .tc Cert.KernelIdeal.main_v138),
    fun c => Cert.KernelIdeal.Gen.W43 m g c (Proc.devRef .tc Cert.KernelIdeal.main_v123_1),
    fun c => Cert.KernelIdeal.Gen.W43 m g c (Proc.devRef .tc Cert.KernelIdeal.main_v139),
    fun c => Cert.KernelIdeal.Gen.W43 m g c (Proc.devRef .tc Cert.KernelIdeal.main_v28),
    fun c => Cert.KernelIdeal.Gen.W43 m g c (Proc.devRef .tc Cert.KernelIdeal.main_v123_2),
    fun c => Cert.KernelIdeal.Gen.W43 m g c (Proc.devRef .tc Cert.KernelIdeal.main_v65),
    fun c => Cert.KernelIdeal.Gen.W43 m g c (Proc.devRef .tc Cert.KernelIdeal.main_v140),
    fun c => Cert.KernelIdeal.Gen.W43 m g c (Proc.devRef .tc Cert.KernelIdeal.main_v102),
    fun c => Cert.KernelIdeal.Gen.W43 m g c (Proc.devRef .tc Cert.KernelIdeal.main_v136),
    kernel_run m g, ?_⟩
  refine (θ_run _ _ _).mono (fun r h c => ?_) (Cert.ReferenceIdeal.Value.run m' g')
  obtain ⟨h0, h1, h2, h3, h4⟩ := hargs c
  have eX := same_X m m' c h0
  have eG := same_G m m' c h1
  have eW := same_W m m' c h2
  have eD := same_D m m' c h3
  have eA := same_A m m' c h4
  obtain ⟨r0, r1, r2, r3, r4, r5, r6, r7, r8, r9, hr⟩ := h c
  refine ⟨r0.trans ?_, r1.trans ?_, r2.trans ?_, r3.trans ?_, r4.trans ?_, r5.trans ?_, r6.trans ?_, r7.trans ?_, r8.trans ?_, r9.trans ?_, hr⟩
  · rw [Cert.ReferenceIdeal.Final.y, eX, eG, eW, eA]
    exact (lift_y _ _).trans (Cert.KernelIdeal.Value.y m g c).symm
  · rw [Cert.ReferenceIdeal.Final.dx, eW, eD, eA]
    exact (lift_x _ _).trans (Cert.KernelIdeal.Value.dx m g c).symm
  · rw [Cert.ReferenceIdeal.Final.dw, eX, eG, eD, eA]
    exact (Cert.KernelIdeal.Value.dw m g c).symm
  · rw [Cert.ReferenceIdeal.Final.hcodes, eX, eG, eA]
    exact (lift_x _ _).trans (Cert.KernelIdeal.Value.hcodes m g c).symm
  · rw [Cert.ReferenceIdeal.Final.hscale, eA]
    exact (lift_s _ _).trans (Cert.KernelIdeal.Value.hscale m g c).symm
  · rw [Cert.ReferenceIdeal.Final.wcodes, eW, eA]
    exact (Cert.KernelIdeal.Value.wcodes_end m g c).symm
  · rw [Cert.ReferenceIdeal.Final.wscale, eA]
    exact (lift_s _ _).trans (Cert.KernelIdeal.Value.wscale m g c).symm
  · rw [Cert.ReferenceIdeal.Final.dcodes, eD, eA]
    exact (lift_y _ _).trans (Cert.KernelIdeal.Value.dcodes_end m g c).symm
  · rw [Cert.ReferenceIdeal.Final.dscale, eA]
    exact (lift_s _ _).trans (Cert.KernelIdeal.Value.dscale m g c).symm
  · rw [Cert.ReferenceIdeal.Final.history, eX, eG, eW, eD, eA]
    exact (Cert.KernelIdeal.Value.history m g c).symm

end Cert.Proof.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial,
  Cert.Proof.Algebraic.algebraic⟩

end Cert.Proof

end
